-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_3)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_3) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2560x1x8192 : Shape := ⟨3, ![2560, 1, 8192]⟩
abbrev S32000x4096 : Shape := ⟨2, ![32000, 4096]⟩
abbrev S32000x256 : Shape := ⟨2, ![32000, 256]⟩
abbrev S2560x8192 : Shape := ⟨2, ![2560, 8192]⟩
abbrev S2560x32000 : Shape := ⟨2, ![2560, 32000]⟩
abbrev S2560x1 : Shape := ⟨2, ![2560, 1]⟩
abbrev S256x4096 : Shape := ⟨2, ![256, 4096]⟩
abbrev S256x256 : Shape := ⟨2, ![256, 256]⟩
abbrev S2560x256 : Shape := ⟨2, ![2560, 256]⟩
abbrev S256x8192 : Shape := ⟨2, ![256, 8192]⟩
abbrev S2560x128 : Shape := ⟨2, ![2560, 128]⟩
abbrev S_ : Shape := ⟨0, ![]⟩
abbrev S128x128 : Shape := ⟨2, ![128, 128]⟩
abbrev S128x128x1 : Shape := ⟨3, ![128, 128, 1]⟩
abbrev S256x128 : Shape := ⟨2, ![256, 128]⟩
abbrev S64x128 : Shape := ⟨2, ![64, 128]⟩
abbrev S256x128x1 : Shape := ⟨3, ![256, 128, 1]⟩
abbrev S512x8192 : Shape := ⟨2, ![512, 8192]⟩
abbrev S512x256 : Shape := ⟨2, ![512, 256]⟩
abbrev S512x128 : Shape := ⟨2, ![512, 128]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S2560x1x8192, .bf16⟩
  | .hbm, ⟨1, _⟩ => ⟨S32000x4096, .i8⟩
  | .hbm, ⟨2, _⟩ => ⟨S32000x256, .bf16⟩
  | .hbm, ⟨3, _⟩ => ⟨S2560x8192, .bf16⟩
  | .hbm, ⟨4, _⟩ => ⟨S2560x32000, .f32⟩
  | .hbm, ⟨5, _⟩ => ⟨S2560x1, .i32⟩
  | .hbm, ⟨6, _⟩ => ⟨S2560x1, .f32⟩
  | .hbm, ⟨7, _⟩ => ⟨S2560x1, .f32⟩
  | .local _ .vmem, ⟨0, _⟩ => ⟨S256x4096, .i8⟩
  | .local _ .vmem, ⟨1, _⟩ => ⟨S256x4096, .i8⟩
  | .local _ .vmem, ⟨2, _⟩ => ⟨S256x256, .bf16⟩
  | .local _ .vmem, ⟨3, _⟩ => ⟨S256x256, .bf16⟩
  | .local _ .vmem, ⟨4, _⟩ => ⟨S2560x256, .f32⟩
  | .local _ .vmem, ⟨5, _⟩ => ⟨S2560x256, .f32⟩
  | .local _ .vmem, ⟨6, _⟩ => ⟨S2560x1, .i32⟩
  | .local _ .vmem, ⟨7, _⟩ => ⟨S2560x1, .f32⟩
  | .local _ .vmem, ⟨8, _⟩ => ⟨S2560x1, .f32⟩
  | .local _ .vmem, ⟨9, _⟩ => ⟨S2560x8192, .bf16⟩
  | .local _ .vmem, ⟨10, _⟩ => ⟨S256x8192, .bf16⟩
  | .local _ .vmem, ⟨11, _⟩ => ⟨S2560x128, .f32⟩
  | .local _ .vmem, ⟨12, _⟩ => ⟨S2560x128, .f32⟩
  | .local _ .vmem, ⟨13, _⟩ => ⟨S2560x128, .i32⟩
  | _, _ => ⟨S2560x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_688 : BitVec 32 := 0#32
  let c20_i32 : BitVec 32 := 20#32
  let v2036 : BitVec 32 := Scalar.addi c0_i32_688 c20_i32
  let c1_i32_689 : BitVec 32 := 1#32
  ⟨c0_i32_688, v2036, c1_i32_689⟩
def k0_mult1 (k0_t1 : Fin k0_t1_loop.trips) : BitVec 32 :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  v2037
def k0_off1 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2039 : Index := Scalar.indexCast v2038
  let c0_692 : Index := 0#32
  ![v2039.toNat, 0]
def k0_off2 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2042 : Index := Scalar.indexCast v2038
  let c128_693 : Index := 128#32
  ![v2042.toNat, 128]
def k0_off3 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2089 : Index := Scalar.indexCast v2038
  let c256_704 : Index := 256#32
  ![v2089.toNat, 256]
def k0_off4 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2092 : Index := Scalar.indexCast v2038
  let c384_705 : Index := 384#32
  ![v2092.toNat, 384]
def k0_off5 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2139 : Index := Scalar.indexCast v2038
  let c512_716 : Index := 512#32
  ![v2139.toNat, 512]
def k0_off6 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2142 : Index := Scalar.indexCast v2038
  let c640_717 : Index := 640#32
  ![v2142.toNat, 640]
def k0_off7 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2189 : Index := Scalar.indexCast v2038
  let c768_728 : Index := 768#32
  ![v2189.toNat, 768]
def k0_off8 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2192 : Index := Scalar.indexCast v2038
  let c896_729 : Index := 896#32
  ![v2192.toNat, 896]
def k0_off9 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2239 : Index := Scalar.indexCast v2038
  let c1024_740 : Index := 1024#32
  ![v2239.toNat, 1024]
def k0_off10 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2242 : Index := Scalar.indexCast v2038
  let c1152_741 : Index := 1152#32
  ![v2242.toNat, 1152]
def k0_off11 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2289 : Index := Scalar.indexCast v2038
  let c1280_752 : Index := 1280#32
  ![v2289.toNat, 1280]
def k0_off12 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2292 : Index := Scalar.indexCast v2038
  let c1408_753 : Index := 1408#32
  ![v2292.toNat, 1408]
def k0_off13 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2339 : Index := Scalar.indexCast v2038
  let c1536_764 : Index := 1536#32
  ![v2339.toNat, 1536]
def k0_off14 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2342 : Index := Scalar.indexCast v2038
  let c1664_765 : Index := 1664#32
  ![v2342.toNat, 1664]
def k0_off15 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2389 : Index := Scalar.indexCast v2038
  let c1792_776 : Index := 1792#32
  ![v2389.toNat, 1792]
def k0_off16 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2392 : Index := Scalar.indexCast v2038
  let c1920_777 : Index := 1920#32
  ![v2392.toNat, 1920]
def k0_off17 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2439 : Index := Scalar.indexCast v2038
  let c2048_788 : Index := 2048#32
  ![v2439.toNat, 2048]
def k0_off18 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2442 : Index := Scalar.indexCast v2038
  let c2176_789 : Index := 2176#32
  ![v2442.toNat, 2176]
def k0_off19 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2489 : Index := Scalar.indexCast v2038
  let c2304_800 : Index := 2304#32
  ![v2489.toNat, 2304]
def k0_off20 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2492 : Index := Scalar.indexCast v2038
  let c2432_801 : Index := 2432#32
  ![v2492.toNat, 2432]
def k0_off21 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2539 : Index := Scalar.indexCast v2038
  let c2560_812 : Index := 2560#32
  ![v2539.toNat, 2560]
def k0_off22 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2542 : Index := Scalar.indexCast v2038
  let c2688_813 : Index := 2688#32
  ![v2542.toNat, 2688]
def k0_off23 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2589 : Index := Scalar.indexCast v2038
  let c2816_824 : Index := 2816#32
  ![v2589.toNat, 2816]
def k0_off24 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2592 : Index := Scalar.indexCast v2038
  let c2944_825 : Index := 2944#32
  ![v2592.toNat, 2944]
def k0_off25 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2639 : Index := Scalar.indexCast v2038
  let c3072_836 : Index := 3072#32
  ![v2639.toNat, 3072]
def k0_off26 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2642 : Index := Scalar.indexCast v2038
  let c3200_837 : Index := 3200#32
  ![v2642.toNat, 3200]
def k0_off27 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2689 : Index := Scalar.indexCast v2038
  let c3328_848 : Index := 3328#32
  ![v2689.toNat, 3328]
def k0_off28 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2692 : Index := Scalar.indexCast v2038
  let c3456_849 : Index := 3456#32
  ![v2692.toNat, 3456]
def k0_off29 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2739 : Index := Scalar.indexCast v2038
  let c3584_860 : Index := 3584#32
  ![v2739.toNat, 3584]
def k0_off30 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2742 : Index := Scalar.indexCast v2038
  let c3712_861 : Index := 3712#32
  ![v2742.toNat, 3712]
def k0_off31 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2789 : Index := Scalar.indexCast v2038
  let c3840_872 : Index := 3840#32
  ![v2789.toNat, 3840]
def k0_off32 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2792 : Index := Scalar.indexCast v2038
  let c3968_873 : Index := 3968#32
  ![v2792.toNat, 3968]
def k0_off33 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2839 : Index := Scalar.indexCast v2038
  let c4096_884 : Index := 4096#32
  ![v2839.toNat, 4096]
def k0_off34 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2842 : Index := Scalar.indexCast v2038
  let c4224_885 : Index := 4224#32
  ![v2842.toNat, 4224]
def k0_off35 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2889 : Index := Scalar.indexCast v2038
  let c4352_896 : Index := 4352#32
  ![v2889.toNat, 4352]
def k0_off36 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2892 : Index := Scalar.indexCast v2038
  let c4480_897 : Index := 4480#32
  ![v2892.toNat, 4480]
def k0_off37 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2939 : Index := Scalar.indexCast v2038
  let c4608_908 : Index := 4608#32
  ![v2939.toNat, 4608]
def k0_off38 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2942 : Index := Scalar.indexCast v2038
  let c4736_909 : Index := 4736#32
  ![v2942.toNat, 4736]
def k0_off39 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2989 : Index := Scalar.indexCast v2038
  let c4864_920 : Index := 4864#32
  ![v2989.toNat, 4864]
def k0_off40 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v2992 : Index := Scalar.indexCast v2038
  let c4992_921 : Index := 4992#32
  ![v2992.toNat, 4992]
def k0_off41 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3039 : Index := Scalar.indexCast v2038
  let c5120_932 : Index := 5120#32
  ![v3039.toNat, 5120]
def k0_off42 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3042 : Index := Scalar.indexCast v2038
  let c5248_933 : Index := 5248#32
  ![v3042.toNat, 5248]
def k0_off43 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3089 : Index := Scalar.indexCast v2038
  let c5376_944 : Index := 5376#32
  ![v3089.toNat, 5376]
def k0_off44 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3092 : Index := Scalar.indexCast v2038
  let c5504_945 : Index := 5504#32
  ![v3092.toNat, 5504]
def k0_off45 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3139 : Index := Scalar.indexCast v2038
  let c5632_956 : Index := 5632#32
  ![v3139.toNat, 5632]
def k0_off46 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3142 : Index := Scalar.indexCast v2038
  let c5760_957 : Index := 5760#32
  ![v3142.toNat, 5760]
def k0_off47 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3189 : Index := Scalar.indexCast v2038
  let c5888_968 : Index := 5888#32
  ![v3189.toNat, 5888]
def k0_off48 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3192 : Index := Scalar.indexCast v2038
  let c6016_969 : Index := 6016#32
  ![v3192.toNat, 6016]
def k0_off49 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3239 : Index := Scalar.indexCast v2038
  let c6144_980 : Index := 6144#32
  ![v3239.toNat, 6144]
def k0_off50 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3242 : Index := Scalar.indexCast v2038
  let c6272_981 : Index := 6272#32
  ![v3242.toNat, 6272]
def k0_off51 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3289 : Index := Scalar.indexCast v2038
  let c6400_992 : Index := 6400#32
  ![v3289.toNat, 6400]
def k0_off52 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3292 : Index := Scalar.indexCast v2038
  let c6528_993 : Index := 6528#32
  ![v3292.toNat, 6528]
def k0_off53 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3339 : Index := Scalar.indexCast v2038
  let c6656_1004 : Index := 6656#32
  ![v3339.toNat, 6656]
def k0_off54 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3342 : Index := Scalar.indexCast v2038
  let c6784_1005 : Index := 6784#32
  ![v3342.toNat, 6784]
def k0_off55 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3389 : Index := Scalar.indexCast v2038
  let c6912_1016 : Index := 6912#32
  ![v3389.toNat, 6912]
def k0_off56 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3392 : Index := Scalar.indexCast v2038
  let c7040_1017 : Index := 7040#32
  ![v3392.toNat, 7040]
def k0_off57 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3439 : Index := Scalar.indexCast v2038
  let c7168_1028 : Index := 7168#32
  ![v3439.toNat, 7168]
def k0_off58 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3442 : Index := Scalar.indexCast v2038
  let c7296_1029 : Index := 7296#32
  ![v3442.toNat, 7296]
def k0_off59 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3489 : Index := Scalar.indexCast v2038
  let c7424_1040 : Index := 7424#32
  ![v3489.toNat, 7424]
def k0_off60 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3492 : Index := Scalar.indexCast v2038
  let c7552_1041 : Index := 7552#32
  ![v3492.toNat, 7552]
def k0_off61 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3539 : Index := Scalar.indexCast v2038
  let c7680_1052 : Index := 7680#32
  ![v3539.toNat, 7680]
def k0_off62 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3542 : Index := Scalar.indexCast v2038
  let c7808_1053 : Index := 7808#32
  ![v3542.toNat, 7808]
def k0_off63 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3589 : Index := Scalar.indexCast v2038
  let c7936_1064 : Index := 7936#32
  ![v3589.toNat, 7936]
def k0_off64 (k0_t1 : Fin k0_t1_loop.trips) : Fin 2 → Nat :=
  let c0_i32_688 : BitVec 32 := 0#32
  let c1_i32_689 : BitVec 32 := 1#32
  let arg14 : BitVec 32 := Scf.iv c0_i32_688 c1_i32_689 k0_t1
  let c128_i32_691 : BitVec 32 := 128#32
  let v2037 : BitVec 32 := Scalar.muli arg14 c128_i32_691
  let v2038 : BitVec 32 := v2037
  let v3592 : Index := Scalar.indexCast v2038
  let c8064_1065 : Index := 8064#32
  ![v3592.toNat, 8064]
@[reducible] def k0_t2_loop : Scf.Loop 32 :=
  let c0_i32_653 : BitVec 32 := 0#32
  let c5_i32 : BitVec 32 := 5#32
  let v1956 : BitVec 32 := Scalar.addi c0_i32_653 c5_i32
  let c1_i32_654 : BitVec 32 := 1#32
  ⟨c0_i32_653, v1956, c1_i32_654⟩
def k0_mult2 (k0_t2 : Fin k0_t2_loop.trips) : BitVec 32 :=
  let c0_i32_653 : BitVec 32 := 0#32
  let c1_i32_654 : BitVec 32 := 1#32
  let arg14 : BitVec 32 := Scf.iv c0_i32_653 c1_i32_654 k0_t2
  let c512_i32 : BitVec 32 := 512#32
  let v1960 : BitVec 32 := Scalar.muli arg14 c512_i32
  v1960
def k0_off65 (k0_t2 : Fin k0_t2_loop.trips) : Fin 2 → Nat :=
  let c0_i32_653 : BitVec 32 := 0#32
  let c1_i32_654 : BitVec 32 := 1#32
  let arg14 : BitVec 32 := Scf.iv c0_i32_653 c1_i32_654 k0_t2
  let c512_i32 : BitVec 32 := 512#32
  let v1960 : BitVec 32 := Scalar.muli arg14 c512_i32
  let v1961 : BitVec 32 := v1960
  let v1962 : Index := Scalar.indexCast v1961
  let c0_657 : Index := 0#32
  ![v1962.toNat, 0]
def k0_off66 (k0_t2 : Fin k0_t2_loop.trips) : Fin 2 → Nat :=
  let c0_i32_653 : BitVec 32 := 0#32
  let c1_i32_654 : BitVec 32 := 1#32
  let arg14 : BitVec 32 := Scf.iv c0_i32_653 c1_i32_654 k0_t2
  let c512_i32 : BitVec 32 := 512#32
  let v1960 : BitVec 32 := Scalar.muli arg14 c512_i32
  let v1961 : BitVec 32 := v1960
  let v1966 : Index := Scalar.indexCast v1961
  let c0_661 : Index := 0#32
  ![v1966.toNat, 0]
def k0_off67 (k0_t2 : Fin k0_t2_loop.trips) : Fin 2 → Nat :=
  let c0_i32_653 : BitVec 32 := 0#32
  let c1_i32_654 : BitVec 32 := 1#32
  let arg14 : BitVec 32 := Scf.iv c0_i32_653 c1_i32_654 k0_t2
  let c512_i32 : BitVec 32 := 512#32
  let v1960 : BitVec 32 := Scalar.muli arg14 c512_i32
  let v1961 : BitVec 32 := v1960
  let v1968 : Index := Scalar.indexCast v1961
  let c0_662 : Index := 0#32
  ![v1968.toNat, 0]
def k0_cond2 (i : grid0.Coords) : BitVec 1 :=
  let arg0 : BitVec 32 := BitVec.ofNat 32 (i 0).val
  let c124_i32 : BitVec 32 := 124#32
  let v1957 : BitVec 1 := Scalar.cmpi .eq arg0 c124_i32
  let v1958 : BitVec 32 := Scalar.extui v1957
  let c0_i32_656 : BitVec 32 := 0#32
  let v1959 : BitVec 1 := Scalar.cmpi .ne v1958 c0_i32_656
  v1959

@[reducible] def k0_t3_loop : Scf.Loop 32 :=
  let c0_i32_657 : BitVec 32 := 0#32
  let c10_i32 : BitVec 32 := 10#32
  let v1960 : BitVec 32 := Scalar.addi c0_i32_657 c10_i32
  let c1_i32_658 : BitVec 32 := 1#32
  ⟨c0_i32_657, v1960, c1_i32_658⟩
def k0_mult3 (k0_t3 : Fin k0_t3_loop.trips) : BitVec 32 :=
  let c0_i32_657 : BitVec 32 := 0#32
  let c1_i32_658 : BitVec 32 := 1#32
  let arg14 : BitVec 32 := Scf.iv c0_i32_657 c1_i32_658 k0_t3
  let c256_i32 : BitVec 32 := 256#32
  let v1961 : BitVec 32 := Scalar.muli arg14 c256_i32
  v1961
def k0_off68 (k0_t3 : Fin k0_t3_loop.trips) : Fin 2 → Nat :=
  let c0_i32_657 : BitVec 32 := 0#32
  let c1_i32_658 : BitVec 32 := 1#32
  let arg14 : BitVec 32 := Scf.iv c0_i32_657 c1_i32_658 k0_t3
  let c256_i32 : BitVec 32 := 256#32
  let v1961 : BitVec 32 := Scalar.muli arg14 c256_i32
  let v1962 : BitVec 32 := v1961
  let v1963 : Index := Scalar.indexCast v1962
  let c0_660 : Index := 0#32
  ![v1963.toNat, 0]
def k0_off69 (k0_t3 : Fin k0_t3_loop.trips) : Fin 2 → Nat :=
  let c0_i32_657 : BitVec 32 := 0#32
  let c1_i32_658 : BitVec 32 := 1#32
  let arg14 : BitVec 32 := Scf.iv c0_i32_657 c1_i32_658 k0_t3
  let c256_i32 : BitVec 32 := 256#32
  let v1961 : BitVec 32 := Scalar.muli arg14 c256_i32
  let v1962 : BitVec 32 := v1961
  let v1986 : Index := Scalar.indexCast v1962
  let c0_667 : Index := 0#32
  ![v1986.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2560x1x8192 : Shape := ⟨3, ![2560, 1, 8192]⟩
abbrev S32000x4096 : Shape := ⟨2, ![32000, 4096]⟩
abbrev S32000x256 : Shape := ⟨2, ![32000, 256]⟩
abbrev S_ : Shape := ⟨0, ![]⟩
abbrev S32000x256x16 : Shape := ⟨3, ![32000, 256, 16]⟩
abbrev S32000x256x1 : Shape := ⟨3, ![32000, 256, 1]⟩
abbrev S2560x1x256x32 : Shape := ⟨4, ![2560, 1, 256, 32]⟩
abbrev S2560x1x256x16 : Shape := ⟨4, ![2560, 1, 256, 16]⟩
abbrev S2560x1x32000 : Shape := ⟨3, ![2560, 1, 32000]⟩
abbrev S2560x1 : Shape := ⟨2, ![2560, 1]⟩
abbrev S2560x1x2 : Shape := ⟨3, ![2560, 1, 2]⟩
abbrev S2560x1x1 : Shape := ⟨3, ![2560, 1, 1]⟩
abbrev S2560x32000 : Shape := ⟨2, ![2560, 32000]⟩

abbrev nBuf : Space → Nat
  | .hbm => 47
  | .vmem => 0
  | .smem => 0
  | _ => 0

abbrev bufTy : (tb : Table) → Fin (tcTables nBuf tb) → BufTy
  | .hbm, ⟨0, _⟩ => ⟨S2560x1x8192, .bf16⟩
  | .hbm, ⟨1, _⟩ => ⟨S32000x4096, .i8⟩
  | .hbm, ⟨2, _⟩ => ⟨S32000x256, .bf16⟩
  | .hbm, ⟨3, _⟩ => ⟨S32000x4096, .i32⟩
  | .hbm, ⟨4, _⟩ => ⟨S_, .i32⟩
  | .hbm, ⟨5, _⟩ => ⟨S32000x4096, .i32⟩
  | .hbm, ⟨6, _⟩ => ⟨S32000x4096, .i32⟩
  | .hbm, ⟨7, _⟩ => ⟨S32000x256x16, .i32⟩
  | .hbm, ⟨8, _⟩ => ⟨S32000x4096, .i32⟩
  | .hbm, ⟨9, _⟩ => ⟨S_, .i32⟩
  | .hbm, ⟨10, _⟩ => ⟨S32000x4096, .i32⟩
  | .hbm, ⟨11, _⟩ => ⟨S32000x4096, .i32⟩
  | .hbm, ⟨12, _⟩ => ⟨S32000x256x16, .i32⟩
  | .hbm, ⟨13, _⟩ => ⟨S32000x256x1, .bf16⟩
  | .hbm, ⟨14, _⟩ => ⟨S32000x256x16, .bf16⟩
  | .hbm, ⟨15, _⟩ => ⟨S_, .bf16⟩
  | .hbm, ⟨16, _⟩ => ⟨S32000x256x16, .bf16⟩
  | .hbm, ⟨17, _⟩ => ⟨S32000x256x16, .bf16⟩
  | .hbm, ⟨18, _⟩ => ⟨S32000x256x16, .bf16⟩
  | .hbm, ⟨19, _⟩ => ⟨S32000x256x16, .bf16⟩
  | .hbm, ⟨20, _⟩ => ⟨S32000x256x16, .bf16⟩
  | .hbm, ⟨21, _⟩ => ⟨S_, .bf16⟩
  | .hbm, ⟨22, _⟩ => ⟨S32000x256x16, .bf16⟩
  | .hbm, ⟨23, _⟩ => ⟨S32000x256x16, .bf16⟩
  | .hbm, ⟨24, _⟩ => ⟨S32000x256x16, .bf16⟩
  | .hbm, ⟨25, _⟩ => ⟨S32000x256x16, .bf16⟩
  | .hbm, ⟨26, _⟩ => ⟨S2560x1x256x32, .bf16⟩
  | .hbm, ⟨27, _⟩ => ⟨S2560x1x256x16, .bf16⟩
  | .hbm, ⟨28, _⟩ => ⟨S2560x1x32000, .f32⟩
  | .hbm, ⟨29, _⟩ => ⟨S2560x1x256x16, .bf16⟩
  | .hbm, ⟨30, _⟩ => ⟨S2560x1x32000, .f32⟩
  | .hbm, ⟨31, _⟩ => ⟨S2560x1x32000, .f32⟩
  | .hbm, ⟨32, _⟩ => ⟨S2560x1x32000, .i32⟩
  | .hbm, ⟨33, _⟩ => ⟨S_, .f32⟩
  | .hbm, ⟨34, _⟩ => ⟨S_, .i32⟩
  | .hbm, ⟨35, _⟩ => ⟨S2560x1, .f32⟩
  | .hbm, ⟨36, _⟩ => ⟨S2560x1, .i32⟩
  | .hbm, ⟨37, _⟩ => ⟨S2560x1x2, .f32⟩
  | .hbm, ⟨38, _⟩ => ⟨S2560x1x2, .i32⟩
  | .hbm, ⟨39, _⟩ => ⟨S2560x1x1, .f32⟩
  | .hbm, ⟨40, _⟩ => ⟨S2560x1, .f32⟩
  | .hbm, ⟨41, _⟩ => ⟨S2560x1x1, .f32⟩
  | .hbm, ⟨42, _⟩ => ⟨S2560x1, .f32⟩
  | .hbm, ⟨43, _⟩ => ⟨S2560x1x1, .f32⟩
  | .hbm, ⟨44, _⟩ => ⟨S2560x1, .f32⟩
  | .hbm, ⟨45, _⟩ => ⟨S2560x1, .f32⟩
  | .hbm, ⟨46, _⟩ => ⟨S2560x32000, .f32⟩
  | _, _ => ⟨S2560x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v25 : Ref sig .tc := ⟨.hbm, 36, rfl⟩
abbrev main_values : Ref sig .tc := ⟨.hbm, 37, rfl⟩
abbrev main_indices : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.KernelRuns.lean ====
module
public import proofs.«01_k».proof.Proof.Gen.Kernel.Frame.Runs
@[expose] public section
set_option maxRecDepth 16384

/-!
# The loop over row blocks stores the same pieces whatever the logits' buffer held before it

The buffer the product goes to is written and never read, but the generated name of the loop's pieces mentions what it
held at the loop's entry. The runs of the whole body need the pieces named without it.
-/

noncomputable section
namespace Cert.Kernel.Gen
open Idealize.ShloMosaic Idealize.ShloMosaic.TcCoe Idealize.ShloMosaic.Tactic Idealize.SL.Sem

variable {F : FTy → Type} [FloatOps F]
variable (𝒱 : Variants) (c : Dev nD) (bd : Option 𝒱.V) (i : grid0.Coords) (arg1 : Memref sig .tc .hbm S2560x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (arg13 : DmaSems sig S_)

/-- One trip's pieces do not depend on what the logits' buffer holds. -/
theorem tripL_k0_t2_any (arg0 : BitVec 32) (X8 : BufTy.Contents (Elt F) arg8.view.ty) (X9 : BufTy.Contents (Elt F) arg9.view.ty) (k : Fin k0_t2_loop.trips)
    (f4 f4' : BufTy.Contents (Elt F) arg4.view.ty) (f10 : BufTy.Contents (Elt F) arg10.view.ty) (f11 : BufTy.Contents (Elt F) arg11.view.ty) (f12 : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 k f4 f10 f11 f12
      = tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 k f4' f10 f11 f12 := by
  unfold tripL_k0_t2 trip_k0_t2
  dsimp only

/-- Nor do the pieces of the trips before a given one. -/
theorem pb_k0_t2_any (arg0 : BitVec 32) (X8 : BufTy.Contents (Elt F) arg8.view.ty) (X9 : BufTy.Contents (Elt F) arg9.view.ty)
    (f4 f4' : BufTy.Contents (Elt F) arg4.view.ty) (f10 : BufTy.Contents (Elt F) arg10.view.ty) (f11 : BufTy.Contents (Elt F) arg11.view.ty) (f12 : BufTy.Contents (Elt F) arg12.view.ty) (k : ℕ) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 f4 f10 f11 f12 k
      = pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 f4' f10 f11 f12 k := by
  induction k with
  | zero => rfl
  | succ k ih =>
    rw [pb_k0_t2.eq_2, pb_k0_t2.eq_2, ih]
    unfold pb_k0_t2Step
    split
    · rw [tripL_k0_t2_any (f4' := arg4.view.writes (Elt F) f4' (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 f4' f10 f11 f12 k).1)]
    · rfl

end Cert.Kernel.Gen
end
-- ==== Proof.KernelRunA.lean ====
/- The run of the kernel's whole body in case A of its conditionals, copied from the generated frame of `Kernel`
   with the loop's pieces named without what the logits' buffer held before (`pb_k0_t2_any`). -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4, 5) at anything, handed back at some contents nothing names. -/
noncomputable def kernelRun0_A (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) :
    Σ' (LS0 : List (View.Piece (Elt F) S2560x8192 .bf16)), Σ' (LS2 : List (View.Piece (Elt F) S2560x128 .f32)), Σ' (LS3 : List (View.Piece (Elt F) S2560x128 .f32)), { LS4 : List (View.Piece (Elt F) S2560x128 .i32) //
      ∀ (W : Waits sig Unit) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ hbPt0 c hbM0_0 fh0 ∗ owes (c : Thread nD τ) 0 W
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_q4_head i (Memref.whole main_v0) (Memref.isWhole_whole _) arg2 harg2 arg3 harg3 arg4 harg4 arg5 harg5 arg6 harg6 arg7 harg7 arg8 harg8 arg9 harg9 arg10 harg10 arg11 harg11 arg12 harg12 cc0_scratch5) K } := by
  refine ⟨?_, ?_, ?_, ?_, fun W K => ?run⟩
  case run =>
    simp only [cc0_q4_head_eq_skeleton]; unfold cc0_q4_head_skel
    simp only [k0_part37_eq_skeleton, k0_part35_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hh0, HW, Hk⟩
    obtain rfl := harg2.eq_unread hf0; obtain rfl := harg3.eq_unread hf1
    sl_exec (disch := first | sl_exact hc0 | sl_exact hc1)
    sl_step
    rw [pb_k0_t2_any (f4 := f2) (f4' := arg4.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]; · iexists _; iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [Hq0]; · iexact Hq0
    isplitl [Hh0]; · iexact Hh0
    iexists _; iexact HW

end Cert.Kernel.Gen

end
-- ==== Proof.KernelRunB.lean ====
/- The run of the kernel's whole body in case B of its conditionals, copied from the generated frame of `Kernel`
   with the loop's pieces named without what the logits' buffer held before (`pb_k0_t2_any`). -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 123: 123 of 125), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4, 5) at anything, handed back at some contents nothing names. -/
noncomputable def kernelRun0_B (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) :
    Σ' (LS0 : List (View.Piece (Elt F) S2560x8192 .bf16)), Σ' (LS2 : List (View.Piece (Elt F) S2560x128 .f32)), Σ' (LS3 : List (View.Piece (Elt F) S2560x128 .f32)), { LS4 : List (View.Piece (Elt F) S2560x128 .i32) //
      ∀ (W : Waits sig Unit) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ owns (c : Thread nD τ) arg10 fullShare xs2 ∗ owns (c : Thread nD τ) arg11 fullShare xs3 ∗ owns (c : Thread nD τ) arg12 fullShare xs4 ∗ semVal ((c : Thread nD τ), SemLoc.dma 9) 0 ∗ hbPt0 c hbM0_0 fh0 ∗ owes (c : Thread nD τ) 0 W
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_q4_head i (Memref.whole main_v0) (Memref.isWhole_whole _) arg2 harg2 arg3 harg3 arg4 harg4 arg5 harg5 arg6 harg6 arg7 harg7 arg8 harg8 arg9 harg9 arg10 harg10 arg11 harg11 arg12 harg12 cc0_scratch5) K } := by
  refine ⟨[], ?_, ?_, ?_, fun W K => ?run⟩
  case run =>
    simp only [cc0_q4_head_eq_skeleton]; unfold cc0_q4_head_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, Hq0, Hh0, HW, Hk⟩
    obtain rfl := harg2.eq_unread hf0; obtain rfl := harg3.eq_unread hf1; obtain rfl := harg8.eq_unread hfs0; obtain rfl := harg10.eq_unread hfs2; obtain rfl := harg11.eq_unread hfs3; obtain rfl := harg12.eq_unread hfs4
    sl_exec (disch := first | sl_exact hc0 | sl_exact hc1)
    sl_step
    rw [pb_k0_t2_any (f4 := f2) (f4' := arg4.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [Hq0]; · iexact Hq0
    isplitl [Hh0]; · iexact Hh0
    iexists _; iexact HW

end Cert.Kernel.Gen

end
-- ==== Proof.KernelRunC.lean ====
/- The run of the kernel's whole body in case C of its conditionals, copied from the generated frame of `Kernel`
   with the loop's pieces named without what the logits' buffer held before (`pb_k0_t2_any`). -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 124), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4, 5) at anything, handed back at some contents nothing names. -/
noncomputable def kernelRun0_C (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) :
    Σ' (LS0 : List (View.Piece (Elt F) S2560x8192 .bf16)), Σ' (LS2 : List (View.Piece (Elt F) S2560x128 .f32)), Σ' (LS3 : List (View.Piece (Elt F) S2560x128 .f32)), { LS4 : List (View.Piece (Elt F) S2560x128 .i32) //
      ∀ (W : Waits sig Unit) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ owns (c : Thread nD τ) arg10 fullShare xs2 ∗ owns (c : Thread nD τ) arg11 fullShare xs3 ∗ owns (c : Thread nD τ) arg12 fullShare xs4 ∗ semVal ((c : Thread nD τ), SemLoc.dma 9) 0 ∗ hbPt0 c hbM0_0 fh0 ∗ owes (c : Thread nD τ) 0 W
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_q4_head i (Memref.whole main_v0) (Memref.isWhole_whole _) arg2 harg2 arg3 harg3 arg4 harg4 arg5 harg5 arg6 harg6 arg7 harg7 arg8 harg8 arg9 harg9 arg10 harg10 arg11 harg11 arg12 harg12 cc0_scratch5) K } := by
  refine ⟨[], ?_, ?_, ?_, fun W K => ?run⟩
  case run =>
    simp only [cc0_q4_head_eq_skeleton]; unfold cc0_q4_head_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, Hq0, Hh0, HW, Hk⟩
    obtain rfl := harg2.eq_unread hf0; obtain rfl := harg3.eq_unread hf1; obtain rfl := harg8.eq_unread hfs0; obtain rfl := harg10.eq_unread hfs2; obtain rfl := harg11.eq_unread hfs3; obtain rfl := harg12.eq_unread hfs4
    sl_exec (disch := first | sl_exact hc0 | sl_exact hc1)
    sl_step
    rw [pb_k0_t2_any (f4 := f2) (f4' := arg4.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [Hq0]; · iexact Hq0
    isplitl [Hh0]; · iexact Hh0
    iexists _; iexact HW

end Cert.Kernel.Gen

end
-- ==== Proof.KernelFrame.lean ====
/- The frame module of `Kernel`, copied from the generated one over the runs of `KernelRunA`, `KernelRunB` and `KernelRunC`. -/
module

public import proofs.«01_k».proof.Proof.KernelRunA
public import proofs.«01_k».proof.Proof.KernelRunB
public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for scratch `arg8`, which the kernel carries between points, cover it: one of them a store of the WHOLE buffer (Lib/Ring.lean `sl_whole_mem`). -/
theorem scover0_A_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x8192.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).1 (by sl_whole_mem) y

/-- What case A leaves in scratch `arg8`: its pieces read back over junk. -/
def sout0_A_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x8192 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 fh0).1)

/-- Case A's pieces for scratch `arg10`, which the kernel carries between points, cover it: one of them a store of the WHOLE buffer (Lib/Ring.lean `sl_whole_mem`). -/
theorem scover0_A_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.1 (by sl_whole_mem) y

/-- What case A leaves in scratch `arg10`: its pieces read back over junk. -/
def sout0_A_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 fh0).2.1)

/-- Case A's pieces for scratch `arg11`, which the kernel carries between points, cover it: one of them a store of the WHOLE buffer (Lib/Ring.lean `sl_whole_mem`). -/
theorem scover0_A_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.2.1 (by sl_whole_mem) y

/-- What case A leaves in scratch `arg11`: its pieces read back over junk. -/
def sout0_A_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 fh0).2.2.1)

/-- Case A's pieces for scratch `arg12`, which the kernel carries between points, cover it: one of them a store of the WHOLE buffer (Lib/Ring.lean `sl_whole_mem`). -/
theorem scover0_A_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.2.2.1 (by sl_whole_mem) y

/-- What case A leaves in scratch `arg12`: its pieces read back over junk. -/
def sout0_A_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x128 .i32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 hc0 hc1 x0 x1 fh0).2.2.2.1)

/-- Case B stores nothing into scratch `arg8`: it holds what the point before left. -/
def sout0_B_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x8192 .bf16 := xs0

/-- Case B's pieces for scratch `arg10`, which the kernel carries between points, cover it: 5 pieces of `S512x128` tiling it (Lib/Ring.lean `Piece.tiledL`). -/
theorem scover0_B_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1 S512x128.size (by sl_kernel_rfl) y

/-- What case B leaves in scratch `arg10`: its pieces read back over junk. -/
def sout0_B_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1)

/-- Case B's pieces for scratch `arg11`, which the kernel carries between points, cover it: 5 pieces of `S512x128` tiling it (Lib/Ring.lean `Piece.tiledL`). -/
theorem scover0_B_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1 S512x128.size (by sl_kernel_rfl) y

/-- What case B leaves in scratch `arg11`: its pieces read back over junk. -/
def sout0_B_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1)

/-- Case B's pieces for scratch `arg12`, which the kernel carries between points, cover it: 5 pieces of `S512x128` tiling it (Lib/Ring.lean `Piece.tiledL`). -/
theorem scover0_B_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1 S512x128.size (by sl_kernel_rfl) y

/-- What case B leaves in scratch `arg12`: its pieces read back over junk. -/
def sout0_B_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .i32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1)

/-- Case C stores nothing into scratch `arg8`: it holds what the point before left. -/
def sout0_C_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x8192 .bf16 := xs0

/-- Case C's pieces for scratch `arg10`, which the kernel carries between points, cover it: 5 pieces of `S512x128` tiling it (Lib/Ring.lean `Piece.tiledL`). -/
theorem scover0_C_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1 S512x128.size (by sl_kernel_rfl) y

/-- What case C leaves in scratch `arg10`: its pieces read back over junk. -/
def sout0_C_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1)

/-- Case C's pieces for scratch `arg11`, which the kernel carries between points, cover it: 5 pieces of `S512x128` tiling it (Lib/Ring.lean `Piece.tiledL`). -/
theorem scover0_C_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1 S512x128.size (by sl_kernel_rfl) y

/-- What case C leaves in scratch `arg11`: its pieces read back over junk. -/
def sout0_C_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1)

/-- Case C's pieces for scratch `arg12`, which the kernel carries between points, cover it: 5 pieces of `S512x128` tiling it (Lib/Ring.lean `Piece.tiledL`). -/
theorem scover0_C_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1 S512x128.size (by sl_kernel_rfl) y

/-- What case C leaves in scratch `arg12`: its pieces read back over junk. -/
def sout0_C_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .i32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2560x8192 .bf16 × Vec F S2560x128 .f32 × Vec F S2560x128 .f32 × Vec F S2560x128 .i32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0))
  | n + 1, hn =>
    if h0 : (n + 1) % 125 = 0 then
      if h1 : (n + 1) % 125 = 124 then
        False.elim (by have hN : n + 1 < 125 := lt_of_lt_of_eq hn (show cfg0.N = 125 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0))
    else
      if h1 : (n + 1) % 125 = 124 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0), sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0), sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0))
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0), sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0), sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2 (V m c main_v0))

/-- `outsAt0` at a point of case A: that case's contents. -/
theorem outsAt0_A (c : Dev nD) (t : Fin cfg0.N) (h0 : t.val % 125 = 0) (h1 : ¬t.val % 125 = 124) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 125 = 0) (h1 : ¬t.val % 125 = 124) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0), sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 125 = 0) (h1 : t.val % 125 = 124) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0), sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0), sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2.1) ∗ owns (c : Thread nD τ) scM0_3 fullShare ((outsAt0 m c n hn).2.2.1) ∗ owns (c : Thread nD τ) scM0_4 fullShare ((outsAt0 m c n hn).2.2.2)) ∗ (∃ r, prngReg c r) ∗ iprop(semVal ((c : Thread nD τ), SemLoc.dma 9) 0) ∗ iprop(hbPt0 c hbM0_0 (V m c main_v0)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2.1) ∗ owns (c : Thread nD τ) scM0_3 fullShare ((outsAt0 m c n hn).2.2.1) ∗ owns (c : Thread nD τ) scM0_4 fullShare ((outsAt0 m c n hn).2.2.2)) ∗ (∃ r, prngReg c r) ∗ iprop(semVal ((c : Thread nD τ), SemLoc.dma 9) 0) ∗ iprop(hbPt0 c hbM0_0 (V m c main_v0))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2.1) ∗ owns (c : Thread nD τ) scM0_3 fullShare ((outsAt0 m c (n - 1) (by omega)).2.2.1) ∗ owns (c : Thread nD τ) scM0_4 fullShare ((outsAt0 m c (n - 1) (by omega)).2.2.2)) ∗ (∃ r, prngReg c r) ∗ iprop(semVal ((c : Thread nD τ), SemLoc.dma 9) 0) ∗ iprop(hbPt0 c hbM0_0 (V m c main_v0))) := by
  cases n with
  | zero => exact absurd rfl hz
  | succ n => rfl

/-! ## The pipeline's proof data -/

/-- The output windows this certificate FORGETS (2, 3, 4, 5): nothing reads what the kernel leaves in them, so nothing
    of it is named (Lib/Pipeline/Dat.lean `Dat.toRForget`). -/
def forgets0 : Fin 6 → Bool := fun w => w.val == 2 || w.val == 3 || w.val == 4 || w.val == 5

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 125 := lt_of_lt_of_eq t.isLt (show cfg0.N = 125 from N_0)
  by_cases h0 : t.val % 125 = 0
  · by_cases h1 : t.val % 125 = 124
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · rw [PhiS_castSucc m c t, PhiS_zero m c _ _ hz, PhiD0_eq]
        rw [outsAt0_A m c t h0 h1]
        unfold sout0_A_0 sout0_A_2 sout0_A_3 sout0_A_4; (try dsimp only)
        iintro ⟨⟨⟨HS0, HS1, HS2, HS3, HS4⟩, Hg, Hq0, Hh0⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (V m c main_v0)).2.2.2.2 W _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hh0]; · iexact Hh0
        isplitl [HW]; · iexact HW
        iintro ⟨H0, H1, H2, H3, H4, H5, ⟨%es0, HS0⟩, HS1, ⟨%es2, HS2⟩, ⟨%es3, HS3⟩, ⟨%es4, HS4⟩, Hq0, Hh0, ⟨%W', HW'⟩⟩
        isplitl [HS0 HS1 HS2 HS3 HS4 Hg Hq0 Hh0]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]; · iexact HS1
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _)
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5
      · exfalso; have hN : t.val < 125 := lt_of_lt_of_eq t.isLt (show cfg0.N = 125 from N_0); omega
  · by_cases h1 : t.val % 125 = 124
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · exfalso; have hN : t.val < 125 := lt_of_lt_of_eq t.isLt (show cfg0.N = 125 from N_0); omega
      · rw [PhiS_castSucc m c t, PhiS_pos m c _ _ hz]
        rw [outsAt0_C m c t h0 h1]
        unfold sout0_C_0 sout0_C_2 sout0_C_3 sout0_C_4; (try dsimp only)
        iintro ⟨⟨⟨HS0, HS1, HS2, HS3, HS4⟩, Hg, Hq0, Hh0⟩, ⟨%W, -, HW⟩, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) _ _ _ _ (V m c main_v0)).2.2.2.2 W _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hh0]; · iexact Hh0
        isplitl [HW]; · iexact HW
        iintro ⟨H0, H1, H2, H3, H4, H5, HS0, HS1, ⟨%es2, HS2⟩, ⟨%es3, HS3⟩, ⟨%es4, HS4⟩, Hq0, Hh0, ⟨%W', HW'⟩⟩
        isplitl [HS0 HS1 HS2 HS3 HS4 Hg Hq0 Hh0]
        · isplitl [HS0 HS1 HS2 HS3 HS4]
          · isplitl [HS0]; · iexact HS0
            isplitl [HS1]; · iexact HS1
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _)
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · exfalso; have hN : t.val < 125 := lt_of_lt_of_eq t.isLt (show cfg0.N = 125 from N_0); omega
      · rw [PhiS_castSucc m c t, PhiS_pos m c _ _ hz]
        rw [outsAt0_B m c t h0 h1]
        unfold sout0_B_0 sout0_B_2 sout0_B_3 sout0_B_4; (try dsimp only)
        iintro ⟨⟨⟨HS0, HS1, HS2, HS3, HS4⟩, Hg, Hq0, Hh0⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) _ _ _ _ (V m c main_v0)).2.2.2.2 W _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hh0]; · iexact Hh0
        isplitl [HW]; · iexact HW
        iintro ⟨H0, H1, H2, H3, H4, H5, HS0, HS1, ⟨%es2, HS2⟩, ⟨%es3, HS3⟩, ⟨%es4, HS4⟩, Hq0, Hh0, ⟨%W', HW'⟩⟩
        isplitl [HS0 HS1 HS2 HS3 HS4 Hg Hq0 Hh0]
        · isplitl [HS0 HS1 HS2 HS3 HS4]
          · isplitl [HS0]; · iexact HS0
            isplitl [HS1]; · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _)
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, Hq0, Hh0⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexists _; iexact HS4
  isplitl [Hg]; · iexact Hg
  isplitl [Hq0]
  · iexact Hq0
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 125 := N_0; omega)

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 2, 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((A_eq m c 0).trans (V_main_arg1 m c)),
      (Pipeline.RDat.FramePost.arr_in h c 1 rfl).trans ((A_eq m c 1).trans (V_main_arg2 m c))⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.IdealRuns.lean ====
module
public import proofs.«01_k».proof.Proof.Gen.KernelIdeal.Frame.Runs
@[expose] public section
set_option maxRecDepth 16384

/-!
# The loop over row blocks stores the same pieces whatever the logits' buffer held before it

The buffer the product goes to is written and never read, but the generated name of the loop's pieces mentions what it
held at the loop's entry. The runs of the whole body need the pieces named without it.
-/

noncomputable section
namespace Cert.KernelIdeal.Gen
open Idealize.ShloMosaic Idealize.ShloMosaic.TcCoe Idealize.ShloMosaic.Tactic Idealize.SL.Sem

variable {F : FTy → Type} [FloatOps F]
variable (𝒱 : Variants) (c : Dev nD) (bd : Option 𝒱.V) (i : grid0.Coords) (arg1 : Memref sig .tc .hbm S2560x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (arg13 : DmaSems sig S_)

/-- One trip's pieces do not depend on what the logits' buffer holds. -/
theorem tripL_k0_t2_any (arg0 : BitVec 32) (X8 : BufTy.Contents (Elt F) arg8.view.ty) (X9 : BufTy.Contents (Elt F) arg9.view.ty) (k : Fin k0_t2_loop.trips)
    (f4 f4' : BufTy.Contents (Elt F) arg4.view.ty) (f10 : BufTy.Contents (Elt F) arg10.view.ty) (f11 : BufTy.Contents (Elt F) arg11.view.ty) (f12 : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 k f4 f10 f11 f12
      = tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 k f4' f10 f11 f12 := by
  unfold tripL_k0_t2 trip_k0_t2
  dsimp only

/-- Nor do the pieces of the trips before a given one. -/
theorem pb_k0_t2_any (arg0 : BitVec 32) (X8 : BufTy.Contents (Elt F) arg8.view.ty) (X9 : BufTy.Contents (Elt F) arg9.view.ty)
    (f4 f4' : BufTy.Contents (Elt F) arg4.view.ty) (f10 : BufTy.Contents (Elt F) arg10.view.ty) (f11 : BufTy.Contents (Elt F) arg11.view.ty) (f12 : BufTy.Contents (Elt F) arg12.view.ty) (k : ℕ) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 f4 f10 f11 f12 k
      = pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 f4' f10 f11 f12 k := by
  induction k with
  | zero => rfl
  | succ k ih =>
    rw [pb_k0_t2.eq_2, pb_k0_t2.eq_2, ih]
    unfold pb_k0_t2Step
    split
    · rw [tripL_k0_t2_any (f4' := arg4.view.writes (Elt F) f4' (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg0 X8 X9 f4' f10 f11 f12 k).1)]
    · rfl

end Cert.KernelIdeal.Gen
end
-- ==== Proof.IdealRunA.lean ====
/- The run of the kernel's whole body in case A of its conditionals, copied from the generated frame of `KernelIdeal`
   with the loop's pieces named without what the logits' buffer held before (`pb_k0_t2_any`). -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken: points 0), WITH the
    proof that on whole staging memrefs — the inputs' at their contents, the outputs it leaves idle (3, 4, 5: no store, the window idle and not written back at the case's points) at contents `xi·` handed back untouched, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) :
    Σ' (L2 : List (View.Piece (Elt F) S2560x256 .f32)), Σ' (L3 : List (View.Piece (Elt F) S2560x1 .i32)), Σ' (L4 : List (View.Piece (Elt F) S2560x1 .f32)), Σ' (L5 : List (View.Piece (Elt F) S2560x1 .f32)), Σ' (LS0 : List (View.Piece (Elt F) S2560x8192 .bf16)), Σ' (LS2 : List (View.Piece (Elt F) S2560x128 .f32)), Σ' (LS3 : List (View.Piece (Elt F) S2560x128 .f32)), { LS4 : List (View.Piece (Elt F) S2560x128 .i32) //
      ∀ (xi3 : Vec F S2560x1 .i32) (xi4 : Vec F S2560x1 .f32) (xi5 : Vec F S2560x1 .f32) (W : Waits sig Unit) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ hbPt0 c hbM0_0 fh0 ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_q4_head i (Memref.whole main_v0) (Memref.isWhole_whole _) arg2 harg2 arg3 harg3 arg4 harg4 arg5 harg5 arg6 harg6 arg7 harg7 arg8 harg8 arg9 harg9 arg10 harg10 arg11 harg11 arg12 harg12 cc0_scratch5) K } := by
  refine ⟨?_, [], [], [], ?_, ?_, ?_, ?_, fun xi3 xi4 xi5 W K => ?run⟩
  case run =>
    simp only [cc0_q4_head_eq_skeleton]; unfold cc0_q4_head_skel
    simp only [k0_part37_eq_skeleton, k0_part35_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hh0, HW, Hk⟩
    obtain rfl := harg2.eq_unread hf0; obtain rfl := harg3.eq_unread hf1; obtain rfl := harg5.eq_unread hf3; obtain rfl := harg6.eq_unread hf4; obtain rfl := harg7.eq_unread hf5
    sl_exec (disch := first | sl_exact hc0 | sl_exact hc1)
    sl_step
    rw [pb_k0_t2_any (f4 := f2) (f4' := arg4.view.junk)]
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [Hq0]; · iexact Hq0
    isplitl [Hh0]; · iexact Hh0
    iexists _; iexact HW

end Cert.KernelIdeal.Gen

end
-- ==== Proof.IdealRunB.lean ====
/- The run of the kernel's whole body in case B of its conditionals, copied from the generated frame of `KernelIdeal`
   with the loop's pieces named without what the logits' buffer held before (`pb_k0_t2_any`). -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 123: 123 of 125), WITH the
    proof that on whole staging memrefs — the inputs' at their contents, the outputs it leaves idle (3, 4, 5: no store, the window idle and not written back at the case's points) at contents `xi·` handed back untouched, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) :
    Σ' (L2 : List (View.Piece (Elt F) S2560x256 .f32)), Σ' (L3 : List (View.Piece (Elt F) S2560x1 .i32)), Σ' (L4 : List (View.Piece (Elt F) S2560x1 .f32)), Σ' (L5 : List (View.Piece (Elt F) S2560x1 .f32)), Σ' (LS0 : List (View.Piece (Elt F) S2560x8192 .bf16)), Σ' (LS2 : List (View.Piece (Elt F) S2560x128 .f32)), Σ' (LS3 : List (View.Piece (Elt F) S2560x128 .f32)), { LS4 : List (View.Piece (Elt F) S2560x128 .i32) //
      ∀ (xi3 : Vec F S2560x1 .i32) (xi4 : Vec F S2560x1 .f32) (xi5 : Vec F S2560x1 .f32) (W : Waits sig Unit) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xi5 ∗ owns (c : Thread nD τ) arg8 fullShare xs0 ∗ (∃ d, owns (c : Thread nD τ) arg9 fullShare d) ∗ owns (c : Thread nD τ) arg10 fullShare xs2 ∗ owns (c : Thread nD τ) arg11 fullShare xs3 ∗ owns (c : Thread nD τ) arg12 fullShare xs4 ∗ semVal ((c : Thread nD τ), SemLoc.dma 9) 0 ∗ hbPt0 c hbM0_0 fh0 ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ owns (c : Thread nD τ) arg7 fullShare xi5 ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_q4_head i (Memref.whole main_v0) (Memref.isWhole_whole _) arg2 harg2 arg3 harg3 arg4 harg4 arg5 harg5 arg6 harg6 arg7 harg7 arg8 harg8 arg9 harg9 arg10 harg10 arg11 harg11 arg12 harg12 cc0_scratch5) K } := by
  refine ⟨?_, [], [], [], [], ?_, ?_, ?_, fun xi3 xi4 xi5 W K => ?run⟩
  case run =>
    simp only [cc0_q4_head_eq_skeleton]; unfold cc0_q4_head_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%fs0, %hfs0, HS0⟩, ⟨%ds1, %fs1, -, HS1⟩, ⟨%fs2, %hfs2, HS2⟩, ⟨%fs3, %hfs3, HS3⟩, ⟨%fs4, %hfs4, HS4⟩, Hq0, Hh0, HW, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hfs0; obtain rfl := harg10.eq_unread hfs2; obtain rfl := harg11.eq_unread hfs3; obtain rfl := harg12.eq_unread hfs4
    sl_exec (disch := first | sl_exact hc0 | sl_exact hc1)
    sl_step
    rw [pb_k0_t2_any (f4 := f2) (f4' := arg4.view.junk)]
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [Hq0]; · iexact Hq0
    isplitl [Hh0]; · iexact Hh0
    iexists _; iexact HW

end Cert.KernelIdeal.Gen

end
-- ==== Proof.IdealRunC.lean ====
/- The run of the kernel's whole body in case C of its conditionals, copied from the generated frame of `KernelIdeal`
   with the loop's pieces named without what the logits' buffer held before (`pb_k0_t2_any`). -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 124), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) :
    Σ' (L2 : List (View.Piece (Elt F) S2560x256 .f32)), Σ' (L3 : List (View.Piece (Elt F) S2560x1 .i32)), Σ' (L4 : List (View.Piece (Elt F) S2560x1 .f32)), Σ' (L5 : List (View.Piece (Elt F) S2560x1 .f32)), Σ' (LS0 : List (View.Piece (Elt F) S2560x8192 .bf16)), Σ' (LS2 : List (View.Piece (Elt F) S2560x128 .f32)), Σ' (LS3 : List (View.Piece (Elt F) S2560x128 .f32)), { LS4 : List (View.Piece (Elt F) S2560x128 .i32) //
      ∀ (W : Waits sig Unit) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ owns (c : Thread nD τ) arg10 fullShare xs2 ∗ owns (c : Thread nD τ) arg11 fullShare xs3 ∗ owns (c : Thread nD τ) arg12 fullShare xs4 ∗ semVal ((c : Thread nD τ), SemLoc.dma 9) 0 ∗ hbPt0 c hbM0_0 fh0 ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_q4_head i (Memref.whole main_v0) (Memref.isWhole_whole _) arg2 harg2 arg3 harg3 arg4 harg4 arg5 harg5 arg6 harg6 arg7 harg7 arg8 harg8 arg9 harg9 arg10 harg10 arg11 harg11 arg12 harg12 cc0_scratch5) K } := by
  refine ⟨?_, ?_, ?_, ?_, [], ?_, ?_, ?_, fun W K => ?run⟩
  case run =>
    simp only [cc0_q4_head_eq_skeleton]; unfold cc0_q4_head_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, Hq0, Hh0, HW, Hk⟩
    obtain rfl := harg2.eq_unread hf0; obtain rfl := harg3.eq_unread hf1; obtain rfl := harg8.eq_unread hfs0; obtain rfl := harg10.eq_unread hfs2; obtain rfl := harg11.eq_unread hfs3; obtain rfl := harg12.eq_unread hfs4
    sl_exec (disch := first | sl_exact hc0 | sl_exact hc1)
    sl_step
    rw [pb_k0_t2_any (f4 := f2) (f4' := arg4.view.junk)]
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]
    · iexists _; isplitr; · ipureintro; exact harg8.read_unread _
      iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [Hq0]; · iexact Hq0
    isplitl [Hh0]; · iexact Hh0
    iexists _; iexact HW

end Cert.KernelIdeal.Gen

end
-- ==== Proof.IdealFrame.lean ====
/- The frame module of `KernelIdeal`, copied from the generated one over the runs of `IdealRunA`, `IdealRunB` and `IdealRunC`. -/
module

public import proofs.«01_k».proof.Proof.IdealRunA
public import proofs.«01_k».proof.Proof.IdealRunB
public import proofs.«01_k».proof.Proof.IdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 2 tile its block (5 stores of `S512x256`, checked by the kernel's evaluation: Lib/Ring.lean `Piece.tiledL`, linear in the pieces, through a loop's `@[irreducible]` trip theorem too), so they cover it. -/
theorem cover0_A_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 fh0).1 S512x256.size (by sl_kernel_rfl) y

/-- What case A leaves in output 2's staging buffer: its pieces read back over junk. -/
def out0_A_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x256 .f32 :=
  VO0_2.read (Elt F) (VO0_2.writes (Elt F) VO0_2.junk (kernelRun0_A c i arg2 harg2 arg3 harg3 arg4 harg4 arg5 harg5 arg6 harg6 arg7 harg7 arg8 harg8 arg9 harg9 arg10 harg10 arg11 harg11 arg12 harg12 hc0 hc1 x0 x1 fh0).1)

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x1 .i32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 hc0 hc1 x0 x1 fh0).2.1)

/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 hc0 hc1 x0 x1 fh0).2.2.1)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 hc0 hc1 x0 x1 fh0).2.2.2.1)

/-- Case A's pieces for scratch `arg8`, which the kernel carries between points, cover it: one of them a store of the WHOLE buffer (Lib/Ring.lean `sl_whole_mem`). -/
theorem scover0_A_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x8192.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.1 (by sl_whole_mem) y

/-- What case A leaves in scratch `arg8`: its pieces read back over junk. -/
def sout0_A_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x8192 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.1)

/-- Case A's pieces for scratch `arg10`, which the kernel carries between points, cover it: one of them a store of the WHOLE buffer (Lib/Ring.lean `sl_whole_mem`). -/
theorem scover0_A_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.1 (by sl_whole_mem) y

/-- What case A leaves in scratch `arg10`: its pieces read back over junk. -/
def sout0_A_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.1)

/-- Case A's pieces for scratch `arg11`, which the kernel carries between points, cover it: one of them a store of the WHOLE buffer (Lib/Ring.lean `sl_whole_mem`). -/
theorem scover0_A_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.2.1 (by sl_whole_mem) y

/-- What case A leaves in scratch `arg11`: its pieces read back over junk. -/
def sout0_A_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.2.1)

/-- Case A's pieces for scratch `arg12`, which the kernel carries between points, cover it: one of them a store of the WHOLE buffer (Lib/Ring.lean `sl_whole_mem`). -/
theorem scover0_A_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) (y : S2560x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.2.2.1 (by sl_whole_mem) y

/-- What case A leaves in scratch `arg12`: its pieces read back over junk. -/
def sout0_A_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : cond0_0 i) (hc1 : ¬cond0_1 i)
    (x0 : Vec F S256x4096 .i8) (x1 : Vec F S256x256 .bf16) (fh0 : HbBuf0 (F := F) c hbM0_0) : Vec F S2560x128 .i32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 hc0 hc1 x0 x1 fh0).2.2.2.2.2.2.2.1)

/-- Case B's pieces for output 2 tile its block (5 stores of `S512x256`, checked by the kernel's evaluation: Lib/Ring.lean `Piece.tiledL`, linear in the pieces, through a loop's `@[irreducible]` trip theorem too), so they cover it. -/
theorem cover0_B_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).1 S512x256.size (by sl_kernel_rfl) y

/-- What case B leaves in output 2's staging buffer: its pieces read back over junk. -/
def out0_B_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x256 .f32 :=
  VO0_2.read (Elt F) (VO0_2.writes (Elt F) VO0_2.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x1 .i32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1)

/-- Case B stores nothing into scratch `arg8`: it holds what the point before left. -/
def sout0_B_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x8192 .bf16 := xs0

/-- Case B's pieces for scratch `arg10`, which the kernel carries between points, cover it: 5 pieces of `S512x128` tiling it (Lib/Ring.lean `Piece.tiledL`). -/
theorem scover0_B_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.1 S512x128.size (by sl_kernel_rfl) y

/-- What case B leaves in scratch `arg10`: its pieces read back over junk. -/
def sout0_B_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.1)

/-- Case B's pieces for scratch `arg11`, which the kernel carries between points, cover it: 5 pieces of `S512x128` tiling it (Lib/Ring.lean `Piece.tiledL`). -/
theorem scover0_B_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.1 S512x128.size (by sl_kernel_rfl) y

/-- What case B leaves in scratch `arg11`: its pieces read back over junk. -/
def sout0_B_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.1)

/-- Case B's pieces for scratch `arg12`, which the kernel carries between points, cover it: 5 pieces of `S512x128` tiling it (Lib/Ring.lean `Piece.tiledL`). -/
theorem scover0_B_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.2.1 S512x128.size (by sl_kernel_rfl) y

/-- What case B leaves in scratch `arg12`: its pieces read back over junk. -/
def sout0_B_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : ¬cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .i32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.2.1)

/-- Case C's pieces for output 2 tile its block (5 stores of `S512x256`, checked by the kernel's evaluation: Lib/Ring.lean `Piece.tiledL`, linear in the pieces, through a loop's `@[irreducible]` trip theorem too), so they cover it. -/
theorem cover0_C_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).1 S512x256.size (by sl_kernel_rfl) y

/-- What case C leaves in output 2's staging buffer: its pieces read back over junk. -/
def out0_C_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x256 .f32 :=
  VO0_2.read (Elt F) (VO0_2.writes (Elt F) VO0_2.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).1)

/-- Case C's pieces for output 3 tile its block (10 stores of `S256x1`, checked by the kernel's evaluation: Lib/Ring.lean `Piece.tiledL`, linear in the pieces, through a loop's `@[irreducible]` trip theorem too), so they cover it. -/
theorem cover0_C_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1 S256x1.size (by sl_kernel_rfl) y

/-- What case C leaves in output 3's staging buffer: its pieces read back over junk. -/
def out0_C_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x1 .i32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.1)

/-- Case C's pieces for output 4 tile its block (10 stores of `S256x1`, checked by the kernel's evaluation: Lib/Ring.lean `Piece.tiledL`, linear in the pieces, through a loop's `@[irreducible]` trip theorem too), so they cover it. -/
theorem cover0_C_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1 S256x1.size (by sl_kernel_rfl) y

/-- What case C leaves in output 4's staging buffer: its pieces read back over junk. -/
def out0_C_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.1)

/-- Case C's pieces for output 5 tile its block (10 stores of `S256x1`, checked by the kernel's evaluation: Lib/Ring.lean `Piece.tiledL`, linear in the pieces, through a loop's `@[irreducible]` trip theorem too), so they cover it. -/
theorem cover0_C_5 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1 S256x1.size (by sl_kernel_rfl) y

/-- What case C leaves in output 5's staging buffer: its pieces read back over junk. -/
def out0_C_5 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.1)

/-- Case C stores nothing into scratch `arg8`: it holds what the point before left. -/
def sout0_C_0 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x8192 .bf16 := xs0

/-- Case C's pieces for scratch `arg10`, which the kernel carries between points, cover it: 5 pieces of `S512x128` tiling it (Lib/Ring.lean `Piece.tiledL`). -/
theorem scover0_C_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.1 S512x128.size (by sl_kernel_rfl) y

/-- What case C leaves in scratch `arg10`: its pieces read back over junk. -/
def sout0_C_2 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.1)

/-- Case C's pieces for scratch `arg11`, which the kernel carries between points, cover it: 5 pieces of `S512x128` tiling it (Lib/Ring.lean `Piece.tiledL`). -/
theorem scover0_C_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.1 S512x128.size (by sl_kernel_rfl) y

/-- What case C leaves in scratch `arg11`: its pieces read back over junk. -/
def sout0_C_3 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.1)

/-- Case C's pieces for scratch `arg12`, which the kernel carries between points, cover it: 5 pieces of `S512x128` tiling it (Lib/Ring.lean `Piece.tiledL`). -/
theorem scover0_C_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) (y : S2560x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.2.1 S512x128.size (by sl_kernel_rfl) y

/-- What case C leaves in scratch `arg12`: its pieces read back over junk. -/
def sout0_C_4 (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (hc0 : ¬cond0_0 i) (hc1 : cond0_1 i)
    (x0 : Vec F S256x4096 .i8) (x1 : Vec F S256x256 .bf16) (xs0 : Vec F S2560x8192 .bf16) (xs2 : Vec F S2560x128 .f32) (xs3 : Vec F S2560x128 .f32) (xs4 : Vec F S2560x128 .i32) (fh0 : HbBuf0 (F := F) c hbM0_0) : Vec F S2560x128 .i32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 hc0 hc1 x0 x1 xs0 xs2 xs3 xs4 fh0).2.2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2560x256 .f32 × Vec F S2560x1 .i32 × Vec F S2560x1 .f32 × Vec F S2560x1 .f32 × Vec F S2560x8192 .bf16 × Vec F S2560x128 .f32 × Vec F S2560x128 .f32 × Vec F S2560x128 .i32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (V m c main_v0))
  | n + 1, hn =>
    if h0 : (n + 1) % 125 = 0 then
      if h1 : (n + 1) % 125 = 124 then
        False.elim (by have hN : n + 1 < 125 := lt_of_lt_of_eq hn (show cfg0.N = 125 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (V m c main_v0))
    else
      if h1 : (n + 1) % 125 = 124 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0))
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0), sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v0))

/-- `outsAt0` at a point of case A: that case's contents. -/
theorem outsAt0_A (c : Dev nD) (t : Fin cfg0.N) (h0 : t.val % 125 = 0) (h1 : ¬t.val % 125 = 124) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 125 = 0) (h1 : ¬t.val % 125 = 124) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 125 = 0) (h1 : t.val % 125 = 124) :
    outsAt0 m c t.val t.isLt = (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0), sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ (∃ d, owns (c : Thread nD τ) scM0_1 fullShare d) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2)) ∗ (∃ r, prngReg c r) ∗ iprop(semVal ((c : Thread nD τ), SemLoc.dma 9) 0) ∗ iprop(hbPt0 c hbM0_0 (V m c main_v0)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ (∃ d, owns (c : Thread nD τ) scM0_1 fullShare d) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2)) ∗ (∃ r, prngReg c r) ∗ iprop(semVal ((c : Thread nD τ), SemLoc.dma 9) 0) ∗ iprop(hbPt0 c hbM0_0 (V m c main_v0))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ (∃ d, owns (c : Thread nD τ) scM0_1 fullShare d) ∗ owns (c : Thread nD τ) scM0_2 fullShare ((outsAt0 m c (n - 1) (by omega)).2.2.2.2.2.1) ∗ owns (c : Thread nD τ) scM0_3 fullShare ((outsAt0 m c (n - 1) (by omega)).2.2.2.2.2.2.1) ∗ owns (c : Thread nD τ) scM0_4 fullShare ((outsAt0 m c (n - 1) (by omega)).2.2.2.2.2.2.2)) ∗ (∃ r, prngReg c r) ∗ iprop(semVal ((c : Thread nD τ), SemLoc.dma 9) 0) ∗ iprop(hbPt0 c hbM0_0 (V m c main_v0))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 125 := lt_of_lt_of_eq t.isLt (show cfg0.N = 125 from N_0)
  by_cases h0 : t.val % 125 = 0
  · by_cases h1 : t.val % 125 = 124
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold out0_A_2 sout0_A_0 sout0_A_2 sout0_A_3 sout0_A_4; (try dsimp only)
        iintro ⟨⟨⟨HS0, HS1, HS2, HS3, HS4⟩, Hg, Hq0, Hh0⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (V m c main_v0)).2.2.2.2.2.2.2.2 _ _ _ W _)
        isplitl [H0]; · iexact H0
        isplitl [H1]; · iexact H1
        isplitl [H2]; · iexists _; iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hh0]; · iexact Hh0
        isplitl [HW]; · iexact HW
        iintro ⟨H0, H1, ⟨%e2, H2⟩, H3, H4, H5, ⟨%es0, HS0⟩, HS1, ⟨%es2, HS2⟩, ⟨%es3, HS3⟩, ⟨%es4, HS4⟩, Hq0, Hh0, ⟨%W', HW'⟩⟩
        isplitl [HS0 HS1 HS2 HS3 HS4 Hg Hq0 Hh0]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]; · iexact HS1
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _)
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _ _ _ _ _ _ _ _ _ _)
        isplitl [H3]; · iexists _; iexact H3
        isplitl [H4]; · iexists _; iexact H4
        iexists _; iexact H5
      · exfalso; have hN : t.val < 125 := lt_of_lt_of_eq t.isLt (show cfg0.N = 125 from N_0); omega
  · by_cases h1 : t.val % 125 = 124
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 125 := lt_of_lt_of_eq t.isLt (show cfg0.N = 125 from N_0); omega
      · rw [PhiS_castSucc m c t, PhiS_pos m c _ _ hz]
        rw [outsAt0_C m c t h0 h1]
        unfold out0_C_2 out0_C_3 out0_C_4 out0_C_5 sout0_C_0 sout0_C_2 sout0_C_3 sout0_C_4; (try dsimp only)
        iintro ⟨⟨⟨HS0, HS1, HS2, HS3, HS4⟩, Hg, Hq0, Hh0⟩, ⟨%W, -, HW⟩, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) _ _ _ _ (V m c main_v0)).2.2.2.2.2.2.2.2 W _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hh0]; · iexact Hh0
        isplitl [HW]; · iexact HW
        iintro ⟨H0, H1, ⟨%e2, H2⟩, ⟨%e3, H3⟩, ⟨%e4, H4⟩, ⟨%e5, H5⟩, HS0, HS1, ⟨%es2, HS2⟩, ⟨%es3, HS3⟩, ⟨%es4, HS4⟩, Hq0, Hh0, ⟨%W', HW'⟩⟩
        isplitl [HS0 HS1 HS2 HS3 HS4 Hg Hq0 Hh0]
        · isplitl [HS0 HS1 HS2 HS3 HS4]
          · isplitl [HS0]; · iexact HS0
            isplitl [HS1]; · iexact HS1
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _)
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 125 := lt_of_lt_of_eq t.isLt (show cfg0.N = 125 from N_0); omega
      · rw [PhiS_castSucc m c t, PhiS_pos m c _ _ hz]
        rw [outsAt0_B m c t h0 h1]
        unfold out0_B_2 sout0_B_0 sout0_B_2 sout0_B_3 sout0_B_4; (try dsimp only)
        iintro ⟨⟨⟨HS0, HS1, HS2, HS3, HS4⟩, Hg, Hq0, Hh0⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) _ _ _ _ (V m c main_v0)).2.2.2.2.2.2.2.2 _ _ _ W _)
        isplitl [H0]; · iexact H0
        isplitl [H1]; · iexact H1
        isplitl [H2]; · iexists _; iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hh0]; · iexact Hh0
        isplitl [HW]; · iexact HW
        iintro ⟨H0, H1, ⟨%e2, H2⟩, H3, H4, H5, HS0, HS1, ⟨%es2, HS2⟩, ⟨%es3, HS3⟩, ⟨%es4, HS4⟩, Hq0, Hh0, ⟨%W', HW'⟩⟩
        isplitl [HS0 HS1 HS2 HS3 HS4 Hg Hq0 Hh0]
        · isplitl [HS0 HS1 HS2 HS3 HS4]
          · isplitl [HS0]; · iexact HS0
            isplitl [HS1]; · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _)
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _ _ _ _ _ _ _ _ _ _)
        isplitl [H3]; · iexists _; iexact H3
        isplitl [H4]; · iexists _; iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, Hq0, Hh0⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexists _; iexact HS4
  isplitl [Hg]; · iexact Hg
  isplitl [Hq0]
  · iexact Hq0
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 125 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Tile.lean ====
module
public import proofs.«01_k».proof.Proof.Gen.KernelIdeal.Loops
public import Idealize.ShloMosaic.Lib.Pipeline.Value
public import Idealize.ShloMosaic.PureOps.Ideal
public import Idealize.ShloMosaic.Lib.Pointwise.Index
public import Idealize.ShloMosaic.Lib.Pointwise.ElementwiseCore
@[expose] public section
set_option maxRecDepth 16384

/-!
# Writes row block by row block, and one tile of the deinterleaving

A loop of the kernel writes, trip by trip, one block of whole rows of a buffer, as one or more pieces side by
side. `Rows` says what such a list of pieces is worth; `rows_loop` runs the loop.
-/

noncomputable section
namespace Cert.Proof
open Cert.KernelIdeal Cert.KernelIdeal.Gen Idealize.ShloMosaic Idealize.ShloMosaic.TcCoe Idealize.ShloMosaic.Tactic Idealize.SL.Sem

/-- The piece `p` is a block of `B` rows from row `r0` on and `cb` columns, and agrees with `G`. -/
structure Block {Val : EltTy → Type} {e : EltTy} {R C : Nat} (G : (⟨2, ![R, C]⟩ : Shape).Idx → Val e) (r0 B cb : Nat)
    (p : View.Piece Val ⟨2, ![R, C]⟩ e) : Prop where
  off0 : p.1.off 0 = r0
  size0 : p.1.size 0 = B
  size1 : p.1.size 1 = cb
  stride : ∀ a, p.1.stride a = 1
  val : ∀ x, p.2 x = G (p.1.emb x)

/-- The pieces `L` are side by side, `cb` columns each, in the rows `r0 … r0 + B - 1`, cover those rows, and each
    agrees with `G`. -/
structure Rows {Val : EltTy → Type} {e : EltTy} {R C : Nat} (L : List (View.Piece Val ⟨2, ![R, C]⟩ e)) (G : (⟨2, ![R, C]⟩ : Shape).Idx → Val e)
    (r0 B cb : Nat) : Prop where
  piece : ∀ p ∈ L, Block G r0 B cb p
  pos : 0 < cb
  cover : ∀ q < C / cb, cb * q ∈ L.map fun p => p.1.off 1
  dvd : cb ∣ C

/-- What the rows read after such pieces are written. -/
theorem Rows.read {sig : RefSig} {κ : Kind} {sp : Space} {Val : EltTy → Type} {e : EltTy} {R C : Nat} {v : View sig κ sp ⟨2, ![R, C]⟩ e}
    {L : List (View.Piece Val ⟨2, ![R, C]⟩ e)} {G : (⟨2, ![R, C]⟩ : Shape).Idx → Val e} {r0 B cb : Nat} (h : Rows L G r0 B cb)
    (f : v.ty.Contents Val) (y : (⟨2, ![R, C]⟩ : Shape).Idx) :
    v.read Val (v.writes Val f L) y = if r0 ≤ (y 0).val ∧ (y 0).val < r0 + B then G y else v.read Val f y := by
  split
  · rename_i hy
    refine View.read_writes_apply_of_pieces v f G L (fun p hp => (h.piece p hp).val) y ?_
    have hc : (y 1).val < C := (y 1).isLt
    obtain ⟨p, hp, ho⟩ := List.mem_map.1 (h.cover ((y 1).val / cb) (by
      rw [Nat.div_lt_iff_lt_mul h.pos, Nat.div_mul_cancel h.dvd]; exact hc))
    obtain ⟨h0, hs0, hs1, hst, -⟩ := h.piece p hp
    refine ⟨p, hp, p.1.mem_set.mpr (Fin.forall_fin_two.2 ⟨⟨(y 0).val - r0, ?_, ?_⟩, ⟨(y 1).val % cb, ?_, ?_⟩⟩)⟩
    · rw [hs0]; omega
    · rw [h0, hst]; omega
    · rw [hs1]; exact Nat.mod_lt _ h.pos
    · rw [ho, hst]; have := Nat.div_add_mod (y 1).val cb; omega
  · rename_i hy
    refine View.read_writes_apply_of_forall_not_mem v f y L fun p hp hm => hy ?_
    obtain ⟨h0, hs0, hs1, hst, -⟩ := h.piece p hp
    obtain ⟨j, hj, e⟩ := p.1.mem_set.1 hm 0
    rw [h0, hst] at e
    rw [hs0] at hj
    omega

/-- A loop whose trip `k` writes the rows `B k … B k + B - 1`: after `k` trips the rows above are `G`'s and the
    rest is as it was. -/
theorem rows_loop {sig : RefSig} {κ : Kind} {sp : Space} {Val : EltTy → Type} {e : EltTy} {R C : Nat} (v : View sig κ sp ⟨2, ![R, C]⟩ e)
    (f0 : v.ty.Contents Val) (N : Nat) (pb : Nat → List (View.Piece Val ⟨2, ![R, C]⟩ e))
    (T : (k : Nat) → k < N → List (View.Piece Val ⟨2, ![R, C]⟩ e)) (h0 : pb 0 = []) (hs : ∀ k hk, pb (k + 1) = T k hk ++ pb k)
    (G : (⟨2, ![R, C]⟩ : Shape).Idx → Val e) (B cb : Nat)
    (ht : ∀ k hk, (∀ y, B * k ≤ (y 0).val → v.read Val (v.writes Val f0 (pb k)) y = v.read Val f0 y) → Rows (T k hk) G (B * k) B cb) :
    ∀ k ≤ N, ∀ y, v.read Val (v.writes Val f0 (pb k)) y = if (y 0).val < B * k then G y else v.read Val f0 y := by
  intro k
  induction k with
  | zero => intro _ y; simp [h0]
  | succ k ih =>
    intro hk y
    have ih := ih (by omega)
    rw [hs k (by omega), View.writes_append, (ht k (by omega) fun y hy => by rw [ih y, if_neg (by omega)]).read, ih y, Nat.mul_succ]
    by_cases h1 : (y 0).val < B * k
    · rw [if_neg (by omega), if_pos h1, if_pos (by omega)]
    · by_cases h2 : (y 0).val < B * k + B
      · rw [if_pos ⟨by omega, h2⟩, if_pos h2]
      · rw [if_neg (by omega), if_neg h1, if_neg h2]

/-! ## The deinterleaved column order -/

/-- Column `c` of the deinterleaved order is this column of the given one. -/
def perm (c : Nat) : Nat := 256 * (c / 256) + 32 * (c % 128 / 16) + c % 16 + 16 * (c % 256 / 128)

theorem perm_lt {c : Nat} (h : c < 8192) : perm c < 8192 := by unfold perm; omega

/-- A row's columns in the deinterleaved order. -/
def deint {α : Type} (X : S2560x8192.Idx → α) : S2560x8192.Idx → α :=
  fun y => X (ix2 (n0 := 2560) (n1 := 8192) (y 0) ⟨perm (y 1).val, perm_lt (y 1).isLt⟩)

/-- The lane a lane of the low half gathers from. -/
def lane (l : Nat) : Nat := 32 * (l % 64 / 16) + l % 16

/-- One output tile, as the kernel computes it from the tile pair `a`, `b`. -/
def tileT (mask : IVec S128x128 1) (idx : IVec S128x128 32) (a b : Vec Ideal S128x128 .bf16) : FVec Ideal S128x128 .bf16 :=
  shapeCast S128x128 (truncf .bf16 (select mask
    (dynamicGather 1 (extf .f32 a bitsLt_bf16_f32) (shapeCast S128x128 (shapeCast S128x128x1
      (select (cmpi .slt idx (broadcast S128x128 0#32)) (addi idx (broadcast S128x128 128#32)) idx)
        shapeCasts_S128x128_S128x128x1) shapeCasts_S128x128x1_S128x128))
    (dynamicGather 1 (extf .f32 b bitsLt_bf16_f32) (shapeCast S128x128 (shapeCast S128x128x1
      (select (cmpi .slt idx (broadcast S128x128 0#32)) (addi idx (broadcast S128x128 128#32)) idx)
        shapeCasts_S128x128_S128x128x1) shapeCasts_S128x128x1_S128x128)))
    bitsLt_bf16_f32) shapeCasts_S128x128_S128x128

/-- A gather by a lane word that is a lane: the tile at that lane. -/
theorem tileT_apply (mask : IVec S128x128 1) (idx : IVec S128x128 32) (a b : Vec Ideal S128x128 .bf16)
    (x : S128x128.Idx) (n : Nat) (hn : n < 128) (hi : idx x = BitVec.ofNat 32 n) :
    tileT mask idx a b x = if mask x = 1#1 then a (ix2 (n0 := 128) (n1 := 128) (x 0) ⟨n, hn⟩)
      else b (ix2 (n0 := 128) (n1 := 128) (x 0) ⟨n, hn⟩) := by
  unfold tileT
  rw [shapeCast_self, shapeCast_shapeCast]
  have hw : (select (cmpi .slt idx (broadcast S128x128 0#32)) (addi idx (broadcast S128x128 128#32)) idx) x
      = BitVec.ofNat 32 n := by
    have : (BitVec.ofNat 32 n).slt 0#32 = false := by
      have h : ∀ m : Fin 128, (BitVec.ofNat 32 m.val).slt 0#32 = false := by decide +kernel
      exact h ⟨n, hn⟩
    show Scalar.select (IntOp.cmpi .slt (idx x) 0#32) _ (idx x) = _
    rw [hi]
    unfold IntOp.cmpi Scalar.select
    simp [this]
  have hg : ∀ t : Vec Ideal S128x128 .bf16, dynamicGather 1 (extf (F := Ideal) .f32 t bitsLt_bf16_f32)
      (select (cmpi .slt idx (broadcast S128x128 0#32)) (addi idx (broadcast S128x128 128#32)) idx) x
        = (t (ix2 (n0 := 128) (n1 := 128) (x 0) ⟨n, hn⟩) : EReal) := fun t => by
    have hq : (⟨((select (cmpi .slt idx (broadcast S128x128 0#32)) (addi idx (broadcast S128x128 128#32)) idx) x).toNat % 128,
        Nat.mod_lt _ (by omega)⟩ : Fin 128) = ⟨n, hn⟩ := by
      rw [hw]; exact Fin.ext (by simp; omega)
    show t (fun b => if b = 1 then _ else x b) = _
    refine congrArg t (Shape.idx_ext₂ rfl (congrArg Fin.val hq))
  show Scalar.select (mask x) _ _ = _
  rw [hg, hg]
  rfl

/-- A low tile of the pair at columns `c`, `c + 128` holds the deinterleaved columns. -/
theorem lo_tile (X : S2560x8192.Idx → EReal) (mask : IVec S128x128 1) (idx : IVec S128x128 32)
    (hm : ∀ x, mask x = 1#1 ↔ (x 1).val < 64) (hi : ∀ x, idx x = BitVec.ofNat 32 (lane (x 1).val))
    (r0 c : Nat) (hc : c % 256 = 0) (o o' : Fin 2 → Nat) (ho : o = ![r0, c]) (ho' : o' = ![r0, c + 128])
    (hin : ∀ a, o a + (![128, 128] : Fin 2 → Nat) a ≤ S2560x8192.size a) (hin' : ∀ a, o' a + (![128, 128] : Fin 2 → Nat) a ≤ S2560x8192.size a)
    (x : S128x128.Idx) :
    tileT mask idx (fun x => X ((Rect.unit (s := S2560x8192) o ![128, 128] hin).idx x)) (fun x => X ((Rect.unit (s := S2560x8192) o' ![128, 128] hin').idx x)) x
      = deint X ((Rect.unit (s := S2560x8192) o ![128, 128] hin).emb x) := by
  subst ho; subst ho'
  have hx : (x 1).val < 128 := (x 1).isLt
  rw [tileT_apply _ _ _ _ x (lane (x 1).val) (by unfold lane; omega) (hi x)]
  unfold deint
  have e1 : (((Rect.unit (s := S2560x8192) ![r0, c] ![128, 128] hin).emb x) 1).val = c + (x 1).val := by simp
  split
  · rename_i h
    rw [hm] at h
    refine congrArg X (Shape.idx_ext₂ ?_ ?_)
    · simp
    · show c + 1 * lane (x 1).val = perm (((Rect.unit (s := S2560x8192) ![r0, c] ![128, 128] hin).emb x) 1).val
      rw [e1]; unfold perm lane; omega
  · rename_i h
    rw [hm] at h
    refine congrArg X (Shape.idx_ext₂ ?_ ?_)
    · simp
    · show c + 128 + 1 * lane (x 1).val = perm (((Rect.unit (s := S2560x8192) ![r0, c] ![128, 128] hin).emb x) 1).val
      rw [e1]; unfold perm lane; omega

/-- The low tile as a piece of the buffer. -/
theorem lo_block (X : S2560x8192.Idx → EReal) (mask : IVec S128x128 1) (idx : IVec S128x128 32)
    (hm : ∀ x, mask x = 1#1 ↔ (x 1).val < 64) (hi : ∀ x, idx x = BitVec.ofNat 32 (lane (x 1).val))
    (r r0 c : Nat) (hr : r = r0) (o o' : Fin 2 → Nat)
    (hin : ∀ a, o a + (![128, 128] : Fin 2 → Nat) a ≤ S2560x8192.size a) (hin' : ∀ a, o' a + (![128, 128] : Fin 2 → Nat) a ≤ S2560x8192.size a)
    (w : FVec Ideal S128x128 .bf16) (ho : o = ![r, c]) (ho' : o' = ![r, c + 128]) (hc : c % 256 = 0)
    (hw : w = tileT mask idx (fun x => X ((Rect.unit (s := S2560x8192) o ![128, 128] hin).idx x))
      (fun x => X ((Rect.unit (s := S2560x8192) o' ![128, 128] hin').idx x))) :
    Block (Val := Elt Ideal) (e := .bf16) (R := 2560) (C := 8192) (deint X) r0 128 128 ⟨Rect.unit (s := S2560x8192) o ![128, 128] hin, w⟩ := by
  subst hr
  refine ⟨congrFun ho 0, rfl, rfl, fun _ => rfl, fun x => ?_⟩
  rw [hw]
  exact lo_tile X mask idx hm hi r c hc o o' ho ho' hin hin' x

/-- A high tile of that pair. -/
theorem hi_tile (X : S2560x8192.Idx → EReal) (mask : IVec S128x128 1) (idx : IVec S128x128 32)
    (hm : ∀ x, mask x = 1#1 ↔ (x 1).val < 64) (hi : ∀ x, idx x = BitVec.ofNat 32 (lane (x 1).val + 16))
    (r0 c : Nat) (hc : c % 256 = 0) (o o' : Fin 2 → Nat) (ho : o = ![r0, c]) (ho' : o' = ![r0, c + 128])
    (hin : ∀ a, o a + (![128, 128] : Fin 2 → Nat) a ≤ S2560x8192.size a) (hin' : ∀ a, o' a + (![128, 128] : Fin 2 → Nat) a ≤ S2560x8192.size a)
    (x : S128x128.Idx) :
    tileT mask idx (fun x => X ((Rect.unit (s := S2560x8192) o ![128, 128] hin).idx x)) (fun x => X ((Rect.unit (s := S2560x8192) o' ![128, 128] hin').idx x)) x
      = deint X ((Rect.unit (s := S2560x8192) o' ![128, 128] hin').emb x) := by
  subst ho; subst ho'
  have hx : (x 1).val < 128 := (x 1).isLt
  rw [tileT_apply _ _ _ _ x (lane (x 1).val + 16) (by unfold lane; omega) (hi x)]
  unfold deint
  have e1 : (((Rect.unit (s := S2560x8192) ![r0, c + 128] ![128, 128] hin').emb x) 1).val = c + 128 + (x 1).val := by simp
  split
  · rename_i h
    rw [hm] at h
    refine congrArg X (Shape.idx_ext₂ ?_ ?_)
    · simp
    · show c + 1 * (lane (x 1).val + 16) = perm (((Rect.unit (s := S2560x8192) ![r0, c + 128] ![128, 128] hin').emb x) 1).val
      rw [e1]; unfold perm lane; omega
  · rename_i h
    rw [hm] at h
    refine congrArg X (Shape.idx_ext₂ ?_ ?_)
    · simp
    · show c + 128 + 1 * (lane (x 1).val + 16) = perm (((Rect.unit (s := S2560x8192) ![r0, c + 128] ![128, 128] hin').emb x) 1).val
      rw [e1]; unfold perm lane; omega

/-- The high tile as a piece of the buffer. -/
theorem hi_block (X : S2560x8192.Idx → EReal) (mask : IVec S128x128 1) (idx : IVec S128x128 32)
    (hm : ∀ x, mask x = 1#1 ↔ (x 1).val < 64) (hi : ∀ x, idx x = BitVec.ofNat 32 (lane (x 1).val + 16))
    (r r0 c : Nat) (hr : r = r0) (o o' : Fin 2 → Nat)
    (hin : ∀ a, o a + (![128, 128] : Fin 2 → Nat) a ≤ S2560x8192.size a) (hin' : ∀ a, o' a + (![128, 128] : Fin 2 → Nat) a ≤ S2560x8192.size a)
    (w : FVec Ideal S128x128 .bf16) (ho : o = ![r, c]) (ho' : o' = ![r, c + 128]) (hc : c % 256 = 0)
    (hw : w = tileT mask idx (fun x => X ((Rect.unit (s := S2560x8192) o ![128, 128] hin).idx x))
      (fun x => X ((Rect.unit (s := S2560x8192) o' ![128, 128] hin').idx x))) :
    Block (Val := Elt Ideal) (e := .bf16) (R := 2560) (C := 8192) (deint X) r0 128 128 ⟨Rect.unit (s := S2560x8192) o' ![128, 128] hin', w⟩ := by
  subst hr
  refine ⟨congrFun ho' 0, rfl, rfl, fun _ => rfl, fun x => ?_⟩
  rw [hw]
  exact hi_tile X mask idx hm hi r c hc o o' ho ho' hin hin' x

end Cert.Proof
end
-- ==== Proof.Deint.lean ====
module
public import proofs.«01_k».proof.Proof.Tile
@[expose] public section
set_option maxRecDepth 16384

/-!
# The loop that deinterleaves the activations

Each trip rewrites 128 rows of the activations' buffer, 64 tiles of 128 columns, in place.
-/

noncomputable section
namespace Cert.Proof
open Cert.KernelIdeal Cert.KernelIdeal.Gen Idealize.ShloMosaic Idealize.ShloMosaic.TcCoe Idealize.ShloMosaic.Tactic Idealize.SL.Sem

variable (𝒱 : Variants) (c : Dev nD) (bd : Option 𝒱.V) (i : grid0.Coords) (arg1 : Memref sig .tc .hbm S2560x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (arg13 : DmaSems sig S_)

/-- The first row of a trip. -/
def row_t1 (k : Fin k0_t1_loop.trips) : Nat := (Scalar.indexCast (Scalar.muli (Scf.iv 0#32 1#32 k.val) 128#32) : Index).toNat

theorem row_t1_eq (k : Fin k0_t1_loop.trips) : row_t1 k = 128 * k.val := by
  unfold row_t1; revert k; decide +kernel

/-- One trip's pieces: 64 tiles, holding the deinterleaved columns of the rows as the trip found them. -/
theorem blocks_t1 (k0_h1 : k0_cond1 i = 1#1) (v1974 : IVec S128x128 1) (v1990 : IVec S128x128 32) (c16 : BitVec 32) (v1992 : IVec S128x128 32)
    (v1995 : IVec S128x128 32) (c0 : BitVec 32) (k : Fin k0_t1_loop.trips) (f8 : BufTy.Contents (Elt Ideal) arg8.view.ty)
    (hm : ∀ x, v1974 x = 1#1 ↔ (x 1).val < 64)
    (hlo : ∀ x, k0_pay201 v1990 c16 v1992 v1995 c0 x = BitVec.ofNat 32 (lane (x 1).val))
    (hhi : ∀ x, k0_pay202 v1990 c16 v1992 v1995 c0 x = BitVec.ofNat 32 (lane (x 1).val + 16)) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 k f8,
      Block (deint (arg8.view.read (Elt Ideal) f8)) (128 * k.val) 128 128 p := by
  have hr := row_t1_eq k
  unfold tripL_k0_t1 trip_k0_t1
  dsimp only
  sl_unfold_words
  iterate 32
    refine List.forall_mem_cons.2 ⟨hi_block (arg8.view.read (Elt Ideal) f8) v1974 _ hm hhi (row_t1 k) _ _ hr _ _ _ _ _ rfl rfl rfl rfl, ?_⟩
    refine List.forall_mem_cons.2 ⟨lo_block (arg8.view.read (Elt Ideal) f8) v1974 _ hm hlo (row_t1 k) _ _ hr _ _ _ _ _ rfl rfl rfl rfl, ?_⟩
  exact List.forall_mem_nil _

/-- The tiles' first columns, last first. -/
theorem cols_t1 (k0_h1 : k0_cond1 i = 1#1) (v1974 : IVec S128x128 1) (v1990 : IVec S128x128 32) (c16 : BitVec 32) (v1992 : IVec S128x128 32)
    (v1995 : IVec S128x128 32) (c0 : BitVec 32) (k : Fin k0_t1_loop.trips) (f8 : BufTy.Contents (Elt Ideal) arg8.view.ty) :
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 k f8).map (fun p => p.1.off 1)
      = (List.range 64).reverse.map (128 * ·) := by
  unfold tripL_k0_t1 trip_k0_t1
  dsimp only
  rfl

theorem mem_cols {L : List Nat} (h : L = (List.range 64).reverse.map (128 * ·)) (q : Nat) (hq : q < 8192 / 128) : 128 * q ∈ L := by
  rw [h]
  exact List.mem_map.2 ⟨q, List.mem_reverse.2 (List.mem_range.2 hq), rfl⟩

theorem trips_t1 : k0_t1_loop.trips = 20 := by decide +kernel

/-- The deinterleaved rows from `r0` on depend on the rows from `r0` on alone. -/
theorem block_congr {X X' : S2560x8192.Idx → EReal} {r0 B cb : Nat} {p : View.Piece (Elt Ideal) S2560x8192 .bf16}
    (h : Block (Val := Elt Ideal) (deint X) r0 B cb p) (hX : ∀ y, r0 ≤ (y 0).val → X y = X' y) : Block (Val := Elt Ideal) (deint X') r0 B cb p := by
  obtain ⟨h0, h1, h2, h3, h4⟩ := h
  refine ⟨h0, h1, h2, h3, fun x => (h4 x).trans ?_⟩
  unfold deint
  refine hX _ ?_
  have : ((p.1.emb x) 0).val = p.1.off 0 + p.1.stride 0 * (x 0).val := rfl
  show r0 ≤ ((p.1.emb x) 0).val
  rw [h3, h0] at this
  omega

/-- The whole loop leaves the deinterleaved activations. -/
theorem loop_t1 (k0_h1 : k0_cond1 i = 1#1) (v1974 : IVec S128x128 1) (v1990 : IVec S128x128 32) (c16 : BitVec 32) (v1992 : IVec S128x128 32)
    (v1995 : IVec S128x128 32) (c0 : BitVec 32) (G8 : BufTy.Contents (Elt Ideal) arg8.view.ty)
    (hm : ∀ x, v1974 x = 1#1 ↔ (x 1).val < 64)
    (hlo : ∀ x, k0_pay201 v1990 c16 v1992 v1995 c0 x = BitVec.ofNat 32 (lane (x 1).val))
    (hhi : ∀ x, k0_pay202 v1990 c16 v1992 v1995 c0 x = BitVec.ofNat 32 (lane (x 1).val + 16)) (y : S2560x8192.Idx) :
    arg8.view.read (Elt Ideal) (arg8.view.writes (Elt Ideal) G8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 G8 (Scf.trips k0_t1_loop.lb k0_t1_loop.ub k0_t1_loop.st))) y
      = deint (arg8.view.read (Elt Ideal) G8) y := by
  have h := rows_loop arg8.view G8 k0_t1_loop.trips (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 G8)
    (fun k hk => tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 ⟨k, hk⟩ (arg8.view.writes (Elt Ideal) G8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 G8 k)))
    rfl (fun k hk => pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 G8 ⟨k, hk⟩)
    (deint (arg8.view.read (Elt Ideal) G8)) 128 128
    (fun k hk hy => ⟨fun p hp => block_congr (blocks_t1 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 ⟨k, hk⟩ _ hm hlo hhi p hp) hy,
      by norm_num, mem_cols (cols_t1 𝒱 c bd i arg1 harg1 arg2 harg2 arg3 harg3 arg4 harg4 arg5 harg5 arg6 harg6 arg7 harg7 arg8 harg8 arg9 harg9 arg10 harg10 arg11 harg11 arg12 harg12 arg13 k0_h1 v1974 v1990 c16 v1992 v1995 c0 ⟨k, hk⟩ _), ⟨64, rfl⟩⟩)
    k0_t1_loop.trips le_rfl y
  refine h.trans (if_pos ?_)
  rw [trips_t1]
  exact (y 0).isLt

end Cert.Proof
end
-- ==== Proof.Math.lean ====
module
public import Idealize.ShloMosaic.PureOps.Ideal
public import Idealize.ShloMosaic.PureOps.Ideal.Laws
public import Idealize.ShloMosaic.Lib.SortFacts
@[expose] public section

/-!
# The greatest two of a row

The kernel keeps, per lane, the two greatest values seen and the block of the first greatest; at the end it
combines the 128 lanes. The reference takes an arg-max and the two greatest of a sorted row. Both are
described by `IsTop2`, which at most one triple satisfies.
-/

namespace Cert.Proof
open Idealize.ShloMosaic

/-- After `n` values `L 0 … L (n-1)` of a lane: `m1` is the greatest, first taken at `i1`, and `m2` the greatest
    of the others (`⊥` where there is none). -/
structure Inv (L : Nat → EReal) (n : Nat) (m1 m2 : EReal) (i1 : Nat) : Prop where
  le1 : ∀ b < n, L b ≤ m1
  le2 : ∀ b < n, b ≠ i1 → L b ≤ m2
  lt1 : ∀ b < i1, L b < m1
  le12 : m2 ≤ m1
  at2 : m2 = ⊥ ∨ ∃ b < n, b ≠ i1 ∧ L b = m2
  at1 : (i1 < n ∧ L i1 = m1) ∨ (n = 0 ∧ m1 = ⊥ ∧ i1 = 0)

/-- Nothing seen yet. -/
theorem Inv.zero (L : Nat → EReal) : Inv L 0 ⊥ ⊥ 0 where
  le1 := by simp
  le2 := by simp
  lt1 := by simp
  le12 := le_rfl
  at2 := .inl rfl
  at1 := .inr ⟨rfl, rfl, rfl⟩

/-- One more value, the kernel's update. -/
theorem Inv.step {L : Nat → EReal} {n : Nat} {m1 m2 : EReal} {i1 : Nat} (h : Inv L n m1 m2 i1) :
    Inv L (n + 1) (max m1 (L n)) (max m2 (min (L n) m1)) (if m1 < L n then n else i1) := by
  by_cases hv : m1 < L n
  · rw [if_pos hv, max_eq_right hv.le, min_eq_right hv.le, max_eq_right h.le12]
    refine ⟨?_, ?_, ?_, hv.le, ?_, .inl ⟨Nat.lt_succ_self n, rfl⟩⟩
    · intro b hb
      rcases Nat.lt_succ_iff_lt_or_eq.1 hb with hb | rfl
      · exact (h.le1 b hb).trans hv.le
      · exact le_rfl
    · intro b hb hne
      exact h.le1 b (by omega)
    · intro b hb
      exact (h.le1 b hb).trans_lt hv
    · rcases h.at1 with ⟨hi, he⟩ | ⟨_, hm, _⟩
      · exact .inr ⟨i1, by omega, by omega, he⟩
      · exact .inl hm
  · have hv' := not_lt.1 hv
    rw [if_neg hv, max_eq_left hv', min_eq_left hv']
    refine ⟨?_, ?_, h.lt1, max_le h.le12 hv', ?_, ?_⟩
    · intro b hb
      rcases Nat.lt_succ_iff_lt_or_eq.1 hb with hb | rfl
      · exact h.le1 b hb
      · exact hv'
    · intro b hb hne
      rcases Nat.lt_succ_iff_lt_or_eq.1 hb with hb | rfl
      · exact (h.le2 b hb hne).trans (le_max_left _ _)
      · exact le_max_right _ _
    · rcases le_total m2 (L n) with hle | hle
      · rw [max_eq_right hle]
        rcases h.at1 with ⟨hi, _⟩ | ⟨_, hm, _⟩
        · exact .inr ⟨n, by omega, by omega, rfl⟩
        · exact .inl (le_bot_iff.1 (hm ▸ hv'))
      · rw [max_eq_left hle]
        rcases h.at2 with h2 | ⟨b, hb, hne, he⟩
        · exact .inl h2
        · exact .inr ⟨b, by omega, hne, he⟩
    · rcases h.at1 with ⟨hi, he⟩ | ⟨hn, hm, hi⟩
      · exact .inl ⟨by omega, he⟩
      · refine .inl ⟨by omega, ?_⟩
        subst hn; subst hi
        exact le_antisymm hv' (hm ▸ bot_le)

/-- `tok` is the first place of the greatest of the `N` values, `top` that value, `sec` the greatest of the
    others. -/
structure IsTop2 (N : Nat) (L : Nat → EReal) (tok : Nat) (top sec : EReal) : Prop where
  lt : tok < N
  at_tok : L tok = top
  le_top : ∀ v < N, L v ≤ top
  first : ∀ v < tok, L v < top
  at_sec : ∃ v < N, v ≠ tok ∧ L v = sec
  le_sec : ∀ v < N, v ≠ tok → L v ≤ sec

theorem IsTop2.tok_unique {N : Nat} {L : Nat → EReal} {t t' : Nat} {a a' b : EReal}
    (h : IsTop2 N L t a b) (hlt : t' < N) (hat : L t' = a') (hle : ∀ v < N, L v ≤ a') (hfst : ∀ v < N, L v = a' → t' ≤ v) :
    t = t' := by
  have ha : a = a' := le_antisymm (h.at_tok ▸ hle t h.lt) (hat ▸ h.le_top t' hlt)
  subst ha
  refine le_antisymm ?_ (hfst t h.lt h.at_tok)
  by_contra hc
  exact absurd hat (h.first t' (by omega)).ne

/-! ## Folds over the lanes -/

/-- The fold of `max` from `⊥` bounds every value and is one of them. -/
theorem fold_max_spec {ι : Type} [Fintype ι] [Nonempty ι] (f : ι → EReal) :
    (∀ i, f i ≤ Finset.univ.fold max ⊥ f) ∧ ∃ i, f i = Finset.univ.fold max ⊥ f := by
  have hle : ∀ i, f i ≤ Finset.univ.fold max ⊥ f := fun i =>
    (Finset.le_fold_max _).2 (.inr ⟨i, Finset.mem_univ i, le_rfl⟩)
  refine ⟨hle, ?_⟩
  rcases (Finset.le_fold_max (Finset.univ.fold max ⊥ f)).1 le_rfl with h | ⟨i, _, h⟩
  · obtain ⟨i⟩ := ‹Nonempty ι›
    exact ⟨i, le_antisymm (hle i) (h.trans bot_le)⟩
  · exact ⟨i, le_antisymm (hle i) h⟩

/-- The signed minimum of two words is one of them and below both. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  split
  · rename_i h
    simp [BitVec.slt] at h
    exact ⟨.inl rfl, le_rfl, by omega⟩
  · rename_i h
    simp [BitVec.slt] at h
    exact ⟨.inr rfl, by omega, le_rfl⟩

/-- The fold of the signed minimum is the initial word or one of the values, and below all of them. -/
theorem fold_minsi_spec {ι : Type} [DecidableEq ι] (c : BitVec 32) (f : ι → BitVec 32) (s : Finset ι) :
    (s.fold IntOp.minsi c f = c ∨ ∃ i ∈ s, f i = s.fold IntOp.minsi c f) ∧ (s.fold IntOp.minsi c f).toInt ≤ c.toInt
      ∧ ∀ i ∈ s, (s.fold IntOp.minsi c f).toInt ≤ (f i).toInt := by
  induction s using Finset.induction_on with
  | empty => simp
  | insert a s ha ih =>
    rw [Finset.fold_insert ha]
    obtain ⟨h1, h2, h3⟩ := minsi_spec (f a) (s.fold IntOp.minsi c f)
    obtain ⟨i1, i2, i3⟩ := ih
    refine ⟨?_, h3.trans i2, ?_⟩
    · rcases h1 with h1 | h1
      · exact .inr ⟨a, Finset.mem_insert_self _ _, h1.symm⟩
      · rw [h1]
        rcases i1 with i1 | ⟨i, hi, i1⟩
        · exact .inl i1
        · exact .inr ⟨i, Finset.mem_insert_of_mem hi, i1⟩
    · intro i hi
      rcases Finset.mem_insert.1 hi with rfl | hi
      · exact h2
      · exact h3.trans (i3 i hi)

/-- A small number's word read signed. -/
theorem toInt_ofNat_small (n : Nat) (h : n < 2 ^ 31) : (BitVec.ofNat 32 n).toInt = n := by
  rw [BitVec.toInt_eq_toNat_of_lt (by simp; omega)]
  simp; omega

/-- The lanes combined: of `250` blocks of `128` lanes, each lane described by `Inv`, the greatest of the lanes'
    maxima, the least column where a lane attains it, and the greatest left when that column is passed over. -/
theorem isTop2_of_lanes (L : Nat → EReal) (m1 m2 : Fin 128 → EReal) (i1 : Fin 128 → BitVec 32)
    (h : ∀ l, ∃ i, i1 l = BitVec.ofNat 32 i ∧ Inv (fun b => L (128 * b + l)) 250 (m1 l) (m2 l) i)
    (top sec : EReal) (tok : BitVec 32)
    (htop : top = Finset.univ.fold max ⊥ m1)
    (htok : tok = Finset.univ.fold IntOp.minsi 2147483647#32
      (fun l => if m1 l = top then i1 l * 128#32 + BitVec.ofNat 32 l else 1073741824#32))
    (hsec : sec = Finset.univ.fold max ⊥ (fun l => if i1 l * 128#32 + BitVec.ofNat 32 l = tok then m2 l else m1 l)) :
    ∃ t, tok = BitVec.ofNat 32 t ∧ IsTop2 32000 L t top sec := by
  choose i hi inv using h
  have hlt : ∀ l, i l < 250 ∧ L (128 * i l + l) = m1 l := fun l => by
    rcases (inv l).at1 with h | ⟨h, _⟩
    · exact h
    · omega
  have hcol : ∀ l, i1 l * 128#32 + BitVec.ofNat 32 l = BitVec.ofNat 32 (128 * i l + l) := fun l => by
    rw [hi l]
    apply BitVec.eq_of_toNat_eq
    have := (hlt l).1
    have := l.2
    simp
    omega
  have hcolInt : ∀ l, (BitVec.ofNat 32 (128 * i l + l)).toInt = (128 * i l + l : Nat) := fun l =>
    toInt_ofNat_small _ (by have := (hlt l).1; have := l.2; omega)
  obtain ⟨hle, l0, hl0⟩ := fold_max_spec m1
  rw [← htop] at hle hl0
  simp only [hcol] at htok hsec
  obtain ⟨k1, k2, k3⟩ := fold_minsi_spec (2147483647#32)
    (fun l : Fin 128 => if m1 l = top then BitVec.ofNat 32 (128 * i l + l) else 1073741824#32) Finset.univ
  rw [← htok] at k1 k2 k3
  have hb0 := k3 l0 (Finset.mem_univ _)
  simp only [hl0, if_true, hcolInt] at hb0
  have hB0 : 128 * i l0 + l0 < 32000 := by have := (hlt l0).1; have := l0.2; omega
  -- the lane that attains the minimum attains the maximum
  obtain ⟨l1, hl1, ht1⟩ : ∃ l1, m1 l1 = top ∧ tok = BitVec.ofNat 32 (128 * i l1 + l1) := by
    rcases k1 with k1 | ⟨l1, _, k1⟩
    · rw [k1] at hb0
      have : (2147483647#32).toInt = 2147483647 := by decide
      omega
    · by_cases hm : m1 l1 = top
      · exact ⟨l1, hm, by simpa [hm] using k1.symm⟩
      · simp only [hm, if_false] at k1
        rw [← k1] at hb0
        have : (1073741824#32).toInt = 1073741824 := by decide
        omega
  have hmin : ∀ l, m1 l = top → 128 * i l1 + l1 ≤ 128 * i l + l := fun l hl => by
    have := k3 l (Finset.mem_univ _)
    simp only [hl, if_true, hcolInt, ht1] at this
    exact_mod_cast this
  have hB1 : 128 * i l1 + l1 < 32000 := by have := (hlt l1).1; have := l1.2; omega
  -- a column is the token's iff its lane is
  have heq : ∀ l, (BitVec.ofNat 32 (128 * i l + l) = tok) ↔ l = l1 := fun l => by
    rw [ht1]
    constructor
    · intro hh
      have := congrArg BitVec.toNat hh
      have h1 := (hlt l).1
      have h2 := l.2
      have h3 := l1.2
      simp at this
      rw [Nat.mod_eq_of_lt (by omega), Nat.mod_eq_of_lt (by omega)] at this
      exact Fin.ext (by omega)
    · rintro rfl; rfl
  simp only [heq] at hsec
  obtain ⟨sle, l2, hl2⟩ := fold_max_spec (fun l : Fin 128 => if l = l1 then m2 l else m1 l)
  rw [← hsec] at sle hl2
  have hdec : ∀ v < 32000, ∃ (b : Nat) (l : Fin 128), b < 250 ∧ v = 128 * b + l := fun v hv =>
    ⟨v / 128, ⟨v % 128, Nat.mod_lt _ (by omega)⟩, by omega, by simp; omega⟩
  have hletop : ∀ v < 32000, L v ≤ top := fun v hv => by
    obtain ⟨b, l, hb, rfl⟩ := hdec v hv
    exact ((inv l).le1 b hb).trans (hle l)
  have hlesec : ∀ v < 32000, v ≠ 128 * i l1 + l1 → L v ≤ sec := fun v hv hne => by
    obtain ⟨b, l, hb, rfl⟩ := hdec v hv
    have := sle l
    by_cases hl : l = l1
    · subst hl
      simp only [if_true] at this
      exact ((inv l).le2 b hb (by rintro rfl; exact hne rfl)).trans this
    · simp only [hl, if_false] at this
      exact ((inv l).le1 b hb).trans this
  refine ⟨_, ht1, hB1, (hlt l1).2.trans hl1, hletop, ?_, ?_, hlesec⟩
  · intro v hv
    obtain ⟨b, l, hb, rfl⟩ := hdec v (by omega)
    refine lt_of_le_of_ne (hletop _ (by omega)) fun he => ?_
    have hm : m1 l = top := le_antisymm (hle l) (he ▸ (inv l).le1 b hb)
    have := hmin l hm
    have hbi : b < i l := by omega
    exact absurd he ((inv l).lt1 b hbi |>.trans_le (hle l)).ne
  · by_cases hl : l2 = l1
    · subst hl
      simp only [if_true] at hl2
      rcases (inv l2).at2 with hm | ⟨b, hb, hne, he⟩
      · have hx : ∃ v < 32000, v ≠ 128 * i l2 + l2 := by
          by_cases hz : 128 * i l2 + (l2 : Nat) = 0
          · exact ⟨1, by omega, by omega⟩
          · exact ⟨0, by omega, by omega⟩
        obtain ⟨v, hv, hne⟩ := hx
        exact ⟨v, hv, hne, le_antisymm (hlesec v hv hne) (by rw [← hl2, hm]; exact bot_le)⟩
      · exact ⟨128 * b + l2, by have := l2.2; omega, by omega, he.trans hl2⟩
    · simp only [hl, if_false] at hl2
      refine ⟨128 * i l2 + l2, by have := (hlt l2).1; have := l2.2; omega, ?_, (hlt l2).2.trans hl2⟩
      have h2 := l2.2
      have h3 := l1.2
      intro hc
      exact hl (Fin.ext (by omega))

/-! ## The reference's side -/

/-- A fold of an operation that keeps one of its two arguments, the better one, ends in the best. -/
theorem foldl_best {α : Type} (f : α → α → α) (R : α → α → Prop) (hR : ∀ a b c, R a b → R b c → R a c) (hr : ∀ a, R a a)
    (hf : ∀ a b, (f a b = a ∨ f a b = b) ∧ R (f a b) a ∧ R (f a b) b) (l : List α) (a : α) :
    (l.foldl f a = a ∨ l.foldl f a ∈ l) ∧ R (l.foldl f a) a ∧ ∀ p ∈ l, R (l.foldl f a) p := by
  induction l generalizing a with
  | nil => simp [hr]
  | cons b l ih =>
    obtain ⟨h1, h2, h3⟩ := ih (f a b)
    obtain ⟨g1, g2, g3⟩ := hf a b
    simp only [List.foldl_cons]
    refine ⟨?_, hR _ _ _ h2 g2, ?_⟩
    · rcases h1 with h1 | h1
      · rw [h1]
        rcases g1 with g1 | g1
        · exact .inl g1
        · rw [g1]; exact .inr List.mem_cons_self
      · exact .inr (List.mem_cons_of_mem _ h1)
    · intro p hp
      rcases List.mem_cons.1 hp with rfl | hp
      · exact hR _ _ _ h2 g3
      · exact h3 p hp

/-- The two greatest of a row by a stable sort, greatest first, at the row `IsTop2` describes. -/
theorem sorted_top2 {N : Nat} (h2 : 1 < N) (L : Nat → EReal) (tok : Nat) (top sec : EReal) (h : IsTop2 N L tok top sec)
    (B : Fin N → Fin N → Bool) (hB : ∀ k k', B k k' = true ↔ L k' < L k) :
    L (sortedFrom B ⟨0, by omega⟩) = top ∧ L (sortedFrom B ⟨1, h2⟩) = sec := by
  have hf : ∀ k k', B k k' = false ↔ L k ≤ L k' := fun k k' => by
    rw [← not_lt, ← hB k k']; simp
  have ni : ∀ i j : Fin N, i < j → L (sortedFrom B j) ≤ L (sortedFrom B i) := fun i j hij => by
    rw [← hf]
    exact sortedFrom_noInversion B B (fun a b hab => (hf b a).2 ((hB a b).1 hab).le) (fun _ _ h => h)
      (fun a b c hab hbc => (hf a c).2 (((hf a b).1 hab).trans ((hf b c).1 hbc))) i j hij
  have inj := sortedFrom_injective B
  have surj := sortedFrom_surjective B
  have le0 : ∀ v : Fin N, L v ≤ L (sortedFrom B ⟨0, by omega⟩) := fun v => by
    obtain ⟨k, rfl⟩ := surj v
    by_cases hk : k = ⟨0, by omega⟩
    · rw [hk]
    · exact ni _ _ (Fin.lt_def.2 (Nat.pos_of_ne_zero fun h0 => hk (Fin.ext h0)))
  have le1 : ∀ v : Fin N, v ≠ sortedFrom B ⟨0, by omega⟩ → L v ≤ L (sortedFrom B ⟨1, h2⟩) := fun v hv => by
    obtain ⟨k, rfl⟩ := surj v
    by_cases hk : k = ⟨1, h2⟩
    · rw [hk]
    · refine ni _ _ (Fin.lt_def.2 ?_)
      have h0 : (k : Nat) ≠ 0 := fun h0 => hv (congrArg _ (Fin.ext h0))
      have h1 : (k : Nat) ≠ 1 := fun h1 => hk (Fin.ext h1)
      show 1 < (k : Nat)
      omega
  have e0 : L (sortedFrom B ⟨0, by omega⟩) = top :=
    le_antisymm (h.le_top _ (Fin.is_lt _)) (h.at_tok ▸ le0 ⟨tok, h.lt⟩)
  refine ⟨e0, ?_⟩
  have hne : sortedFrom B ⟨1, h2⟩ ≠ sortedFrom B ⟨0, by omega⟩ := fun hc => by
    have := congrArg Fin.val (inj hc); simp at this
  by_cases ht : ((sortedFrom B ⟨0, by omega⟩ : Fin N) : Nat) = tok
  · obtain ⟨v, hv, hvn, he⟩ := h.at_sec
    refine le_antisymm (h.le_sec _ (Fin.is_lt _) fun hc => hne (Fin.ext (hc.trans ht.symm))) ?_
    rw [← he]
    exact le1 ⟨v, hv⟩ fun hc => hvn ((congrArg Fin.val hc).trans ht)
  · have hs : top ≤ sec := e0 ▸ h.le_sec _ (Fin.is_lt _) ht
    have hs' : sec ≤ top := by
      obtain ⟨v, hv, _, he⟩ := h.at_sec
      exact he ▸ h.le_top v hv
    rw [le_antisymm hs' hs]
    refine le_antisymm (h.le_top _ (Fin.is_lt _)) ?_
    have := le1 ⟨tok, h.lt⟩ fun hc => ht (congrArg Fin.val hc).symm
    exact h.at_tok ▸ this

end Cert.Proof
-- ==== Proof.Sweep.lean ====
module
public import proofs.«01_k».proof.Proof.Tile
public import proofs.«01_k».proof.Proof.Math
public import Idealize.ShloMosaic.Lib.MatmulPlain
public import Idealize.ShloMosaic.Lib.Pointwise
@[expose] public section
set_option maxRecDepth 16384

/-!
# The loop over row blocks: the product and the running two greatest; and the last loop's combination
-/

noncomputable section
namespace Cert.Proof
open Cert.KernelIdeal Cert.KernelIdeal.Gen Idealize.ShloMosaic Idealize.ShloMosaic.TcCoe Idealize.ShloMosaic.Tactic Idealize.SL.Sem

/-- The product of the activations with one block of weights. -/
def prodT (X : S2560x8192.Idx → EReal) (W : S256x8192.Idx → EReal) (r : Fin 2560) (c : Fin 256) : EReal :=
  ∑ k : Fin 8192, X (ix2 r k) * W (ix2 c k)

/-- The block's product on 512 rows, read at an index. -/
theorem pay194_apply (a : Vec Ideal S512x8192 .bf16) (b : Vec Ideal S256x8192 .bf16) (r : Fin 512) (c : Fin 256) :
    k0_pay194 a b (ix2 r c) = ∑ k : Fin 8192, a (ix2 r k) * b (ix2 c k) := by
  unfold k0_pay194
  pointwise [dot_S512x8192_S256x8192_S512x256_1_1_0_0_n_n]

theorem ofBits_ninf : FloatOps.ofBits (F := Ideal) .f32 0xFF800000#32 = (⊥ : EReal) := by
  show Ideal.ofBits .f32 0xFF800000#32 = ⊥
  simp [Ideal.ofBits, Ideal.ieee]

/-- A row's greatest lane value. -/
def topOf (m1 : Fin 128 → EReal) : EReal := Finset.univ.fold max ⊥ m1

/-- The least column at which a lane attains it. -/
def tokOf (m1 : Fin 128 → EReal) (i1 : Fin 128 → BitVec 32) : BitVec 32 :=
  Finset.univ.fold IntOp.minsi 2147483647#32 fun l => if m1 l = topOf m1 then i1 l * 128#32 + BitVec.ofNat 32 l else 1073741824#32

/-- The greatest value left when that column is passed over. -/
def secOf (m1 m2 : Fin 128 → EReal) (i1 : Fin 128 → BitVec 32) : EReal :=
  Finset.univ.fold max ⊥ fun l => if i1 l * 128#32 + BitVec.ofNat 32 l = tokOf m1 i1 then m2 l else m1 l

/-- A row's greatest lane value, as the kernel computes it. -/
theorem pay3_apply (m1 : Vec Ideal S256x128 .f32) (r : Fin 256) (c : Fin 1) :
    k0_pay3 m1 (ix2 r c) = topOf fun l => m1 (ix2 r l) := by
  unfold k0_pay3 topOf
  pointwise
  rw [show Ideal.ofBits FTy.f32 4286578688#32 = ⊥ from ofBits_ninf]

/-- The column a lane's block index stands for. -/
theorem pay2_apply (i1 : Vec Ideal S256x128 .i32) (r : Fin 256) (l : Fin 128) :
    k0_pay2 i1 (ix2 r l) = i1 (ix2 r l) * 128#32 + BitVec.ofNat 32 l := by
  unfold k0_pay2
  pointwise
  rfl

/-- A select by an equality of words. -/
theorem select_eq_ite {α : Type} (a b : BitVec 32) (x y : α) : Scalar.select (IntOp.cmpi .eq a b) x y = if a = b then x else y := by
  unfold IntOp.cmpi Scalar.select
  by_cases h : a = b
  · simp [h]
  · simp [h, beq_eq_false_iff_ne.2 h]

/-- The least column at which the greatest value stands, as the kernel computes it. -/
theorem pay4_apply (m1 : Vec Ideal S256x128 .f32) (i1 : Vec Ideal S256x128 .i32) (r : Fin 256) (c : Fin 1) :
    k0_pay4 m1 i1 (ix2 r c) = tokOf (fun l => m1 (ix2 r l)) (fun l => i1 (ix2 r l)) := by
  unfold k0_pay4 tokOf
  pointwise
  simp only [pay3_apply, pay2_apply]

/-- The difference of the greatest value and the next, as the kernel computes it. -/
theorem pay5_apply (m1 m2 : Vec Ideal S256x128 .f32) (i1 : Vec Ideal S256x128 .i32) (r : Fin 256) (c : Fin 1) :
    k0_pay5 m1 m2 i1 (ix2 r c) = topOf (fun l => m1 (ix2 r l))
      - secOf (fun l => m1 (ix2 r l)) (fun l => m2 (ix2 r l)) (fun l => i1 (ix2 r l)) := by
  unfold k0_pay5 secOf
  pointwise
  simp only [pay3_apply, pay4_apply, pay2_apply]
  rw [show Ideal.ofBits FTy.f32 4286578688#32 = ⊥ from ofBits_ninf]
  simp only [select_eq_ite]

/-- The greater of a lane's old maximum and the value at the block's low half. -/
theorem pay199_apply (a : Vec Ideal S512x8192 .bf16) (b : Vec Ideal S256x8192 .bf16) (m1 : Vec Ideal S512x128 .f32) (r : Fin 512) (l : Fin 128) :
    k0_pay199 a b m1 (ix2 r l)
      = max (max (m1 (ix2 r l)) (k0_pay194 a b (ix2 r ⟨l, by omega⟩))) (k0_pay194 a b (ix2 r ⟨128 + l, by omega⟩)) := by
  unfold k0_pay199 k0_pay197 k0_pay196 k0_pay195
  pointwise

theorem pay200_apply (a : Vec Ideal S512x8192 .bf16) (b : Vec Ideal S256x8192 .bf16) (m1 m2 : Vec Ideal S512x128 .f32) (r : Fin 512) (l : Fin 128) :
    k0_pay200 a b m1 m2 (ix2 r l)
      = max (max (m2 (ix2 r l)) (min (k0_pay194 a b (ix2 r ⟨l, by omega⟩)) (m1 (ix2 r l))))
          (min (k0_pay194 a b (ix2 r ⟨128 + l, by omega⟩)) (max (m1 (ix2 r l)) (k0_pay194 a b (ix2 r ⟨l, by omega⟩)))) := by
  unfold k0_pay200 k0_pay197 k0_pay196 k0_pay195
  pointwise

theorem pay198_apply (w : BitVec 32) (a : Vec Ideal S512x8192 .bf16) (b : Vec Ideal S256x8192 .bf16) (m1 : Vec Ideal S512x128 .f32)
    (i1 : Vec Ideal S512x128 .i32) (r : Fin 512) (l : Fin 128) :
    k0_pay1 (k0_pay198 w a b m1 i1) (ix2 r l)
      = if max (m1 (ix2 r l)) (k0_pay194 a b (ix2 r ⟨l, by omega⟩)) < k0_pay194 a b (ix2 r ⟨128 + l, by omega⟩) then w * 2#32 + 1#32
        else if m1 (ix2 r l) < k0_pay194 a b (ix2 r ⟨l, by omega⟩) then w * 2#32 + 0#32 else i1 (ix2 r l) := by
  unfold k0_pay1 k0_pay198 k0_pay197 k0_pay196 k0_pay195
  pointwise
  rfl

/-! ## The blocks -/

theorem rows_congr {Val : EltTy → Type} {e : EltTy} {R C : Nat} {L : List (View.Piece Val ⟨2, ![R, C]⟩ e)} {G G' : (⟨2, ![R, C]⟩ : Shape).Idx → Val e}
    {r0 B cb : Nat} (h : Rows L G r0 B cb) (hG : ∀ y, r0 ≤ (y 0).val → G y = G' y) : Rows L G' r0 B cb := by
  refine ⟨fun p hp => ?_, h.pos, h.cover, h.dvd⟩
  obtain ⟨h0, h1, h2, h3, h4⟩ := h.piece p hp
  refine ⟨h0, h1, h2, h3, fun x => (h4 x).trans (hG _ ?_)⟩
  have : ((p.1.emb x) 0).val = p.1.off 0 + p.1.stride 0 * (x 0).val := rfl
  rw [h3, h0] at this
  omega

theorem rect_rows {R C B : Nat} (r0 : Nat) (o : Fin 2 → Nat) (ho : o = ![r0, 0])
    (hin : ∀ a, o a + (![B, C] : Fin 2 → Nat) a ≤ (⟨2, ![R, C]⟩ : Shape).size a) (r : Fin B) (k : Fin C) (h : r0 + r.val < R) :
    (Rect.unit (s := ⟨2, ![R, C]⟩) o ![B, C] hin).idx (ix2 r k) = ix2 (⟨r0 + r.val, h⟩ : Fin R) k := by
  subst ho
  refine Shape.idx_ext₂ ?_ ?_
  · show r0 + 1 * r.val = r0 + r.val; omega
  · show 0 + 1 * k.val = k.val; omega

/-- The block's product at a row and column of the block. -/
theorem pay194_rows (X : S2560x8192.Idx → EReal) (W : S256x8192.Idx → EReal) (r0 : Nat) (o o' : Fin 2 → Nat) (ho : o = ![r0, 0]) (ho' : o' = ![0, 0])
    (hin : ∀ a, o a + (![512, 8192] : Fin 2 → Nat) a ≤ S2560x8192.size a) (hin' : ∀ a, o' a + (![256, 8192] : Fin 2 → Nat) a ≤ S256x8192.size a)
    (r : Fin 512) (c : Fin 256) (h : r0 + r.val < 2560) :
    k0_pay194 (F := Ideal) (fun x => X ((Rect.unit (s := S2560x8192) o ![512, 8192] hin).idx x)) (fun x => W ((Rect.unit (s := S256x8192) o' ![256, 8192] hin').idx x)) (ix2 r c)
      = prodT X W ⟨r0 + r.val, h⟩ c := by
  rw [pay194_apply]
  unfold prodT
  refine Finset.sum_congr rfl fun k _ => ?_
  have e1 := rect_rows (R := 2560) (C := 8192) (B := 512) r0 o ho hin r k h
  have e2 := rect_rows (R := 256) (C := 8192) (B := 256) 0 o' ho' hin' c k (by omega)
  have e3 : (⟨0 + c.val, by omega⟩ : Fin 256) = c := Fin.ext (Nat.zero_add _)
  rw [e3] at e2
  exact congrArg₂ (· * ·) (congrArg X e1) (congrArg W e2)

/-- The running maximum after a block. -/
def stepM1 (P : Fin 2560 → Fin 256 → EReal) (m1 : S2560x128.Idx → EReal) : S2560x128.Idx → EReal := fun y =>
  max (max (m1 y) (P (y 0) ⟨(y 1).val, lt_trans (y 1).isLt (by decide)⟩)) (P (y 0) ⟨128 + (y 1).val, Nat.add_lt_add_left (y 1).isLt 128⟩)

/-- The running second value after a block. -/
def stepM2 (P : Fin 2560 → Fin 256 → EReal) (m1 m2 : S2560x128.Idx → EReal) : S2560x128.Idx → EReal := fun y =>
  max (max (m2 y) (min (P (y 0) ⟨(y 1).val, lt_trans (y 1).isLt (by decide)⟩) (m1 y)))
    (min (P (y 0) ⟨128 + (y 1).val, Nat.add_lt_add_left (y 1).isLt 128⟩) (max (m1 y) (P (y 0) ⟨(y 1).val, lt_trans (y 1).isLt (by decide)⟩)))

/-- The running half-block index after a block. -/
def stepI1 (w : BitVec 32) (P : Fin 2560 → Fin 256 → EReal) (m1 : S2560x128.Idx → EReal) (i1 : S2560x128.Idx → BitVec 32) : S2560x128.Idx → BitVec 32 := fun y =>
  if max (m1 y) (P (y 0) ⟨(y 1).val, lt_trans (y 1).isLt (by decide)⟩) < P (y 0) ⟨128 + (y 1).val, Nat.add_lt_add_left (y 1).isLt 128⟩ then w * 2#32 + 1#32
  else if m1 y < P (y 0) ⟨(y 1).val, lt_trans (y 1).isLt (by decide)⟩ then w * 2#32 + 0#32 else i1 y

theorem stepM1_congr (P : Fin 2560 → Fin 256 → EReal) {m1 m1' : S2560x128.Idx → EReal} {y : S2560x128.Idx} (h : m1 y = m1' y) :
    stepM1 P m1 y = stepM1 P m1' y := by
  unfold stepM1; rw [h]

theorem stepM2_congr (P : Fin 2560 → Fin 256 → EReal) {m1 m1' m2 m2' : S2560x128.Idx → EReal} {y : S2560x128.Idx} (h : m1 y = m1' y) (h2 : m2 y = m2' y) :
    stepM2 P m1 m2 y = stepM2 P m1' m2' y := by
  unfold stepM2; rw [h, h2]

theorem stepI1_congr (w : BitVec 32) (P : Fin 2560 → Fin 256 → EReal) {m1 m1' : S2560x128.Idx → EReal} {i1 i1' : S2560x128.Idx → BitVec 32} {y : S2560x128.Idx}
    (h : m1 y = m1' y) (h2 : i1 y = i1' y) : stepI1 w P m1 i1 y = stepI1 w P m1' i1' y := by
  unfold stepI1; rw [h, h2]

theorem blockP (X : S2560x8192.Idx → EReal) (W : S256x8192.Idx → EReal) (r r0 : Nat) (hr : r = r0) (h0 : r0 + 512 ≤ 2560) (o o' o1 : Fin 2 → Nat) (ho : o = ![r, 0]) (ho' : o' = ![0, 0]) (ho1 : o1 = ![r, 0])
    (hin : ∀ a, o a + (![512, 8192] : Fin 2 → Nat) a ≤ S2560x8192.size a) (hin' : ∀ a, o' a + (![256, 8192] : Fin 2 → Nat) a ≤ S256x8192.size a)
    (hin1 : ∀ a, o1 a + (![512, 256] : Fin 2 → Nat) a ≤ S2560x256.size a) (w : Vec Ideal S512x256 .f32)
    (hw : w = k0_pay194 (F := Ideal) (fun x => X ((Rect.unit (s := S2560x8192) o ![512, 8192] hin).idx x)) (fun x => W ((Rect.unit (s := S256x8192) o' ![256, 8192] hin').idx x))) :
    Block (Val := Elt Ideal) (e := .f32) (R := 2560) (C := 256) (fun y => prodT X W (y 0) (y 1)) r0 512 256 ⟨Rect.unit (s := S2560x256) o1 ![512, 256] hin1, w⟩ := by
  subst hr; subst hw
  refine ⟨congrFun ho1 0, rfl, rfl, fun _ => rfl, ?_⟩
  intro (x : S512x256.Idx)
  obtain ⟨a, b, rfl⟩ : ∃ (a : Fin 512) (b : Fin 256), x = ix2 a b := ⟨x 0, x 1, eq_ix2 x⟩
  have hh : r + a.val < 2560 := by omega
  have e := rect_rows (R := 2560) (C := 256) (B := 512) r o1 ho1 hin1 a b hh
  refine (pay194_rows X W r o o' ho ho' hin hin' a b hh).trans ?_
  exact (congrArg (fun y : S2560x256.Idx => prodT X W (y 0) (y 1)) e).symm

theorem blockM1 (X : S2560x8192.Idx → EReal) (W : S256x8192.Idx → EReal) (m1 : S2560x128.Idx → EReal) (r r0 : Nat) (hr : r = r0) (h0 : r0 + 512 ≤ 2560) (o o' o1 : Fin 2 → Nat) (ho : o = ![r, 0]) (ho' : o' = ![0, 0]) (ho1 : o1 = ![r, 0])
    (hin : ∀ a, o a + (![512, 8192] : Fin 2 → Nat) a ≤ S2560x8192.size a) (hin' : ∀ a, o' a + (![256, 8192] : Fin 2 → Nat) a ≤ S256x8192.size a)
    (hin1 : ∀ a, o1 a + (![512, 128] : Fin 2 → Nat) a ≤ S2560x128.size a) (w : Vec Ideal S512x128 .f32)
    (hw : w = k0_pay199 (F := Ideal) (fun x => X ((Rect.unit (s := S2560x8192) o ![512, 8192] hin).idx x)) (fun x => W ((Rect.unit (s := S256x8192) o' ![256, 8192] hin').idx x)) (fun x => m1 ((Rect.unit (s := S2560x128) o1 ![512, 128] hin1).idx x))) :
    Block (Val := Elt Ideal) (e := .f32) (R := 2560) (C := 128) (stepM1 (prodT X W) m1) r0 512 128 ⟨Rect.unit (s := S2560x128) o1 ![512, 128] hin1, w⟩ := by
  subst hr; subst hw
  refine ⟨congrFun ho1 0, rfl, rfl, fun _ => rfl, ?_⟩
  intro (x : S512x128.Idx)
  obtain ⟨a, b, rfl⟩ : ∃ (a : Fin 512) (b : Fin 128), x = ix2 a b := ⟨x 0, x 1, eq_ix2 x⟩
  have hh : r + a.val < 2560 := by omega
  have e := rect_rows (R := 2560) (C := 128) (B := 512) r o1 ho1 hin1 a b hh
  refine (pay199_apply _ _ _ a b).trans ?_
  rw [pay194_rows X W r o o' ho ho' hin hin' a _ hh, pay194_rows X W r o o' ho ho' hin hin' a _ hh]
  refine Eq.trans ?_ (congrArg (stepM1 (prodT X W) m1) e).symm
  rw [e]
  rfl

theorem blockM2 (X : S2560x8192.Idx → EReal) (W : S256x8192.Idx → EReal) (m1 m2 : S2560x128.Idx → EReal) (r r0 : Nat) (hr : r = r0) (h0 : r0 + 512 ≤ 2560) (o o' o1 : Fin 2 → Nat) (ho : o = ![r, 0]) (ho' : o' = ![0, 0]) (ho1 : o1 = ![r, 0])
    (hin : ∀ a, o a + (![512, 8192] : Fin 2 → Nat) a ≤ S2560x8192.size a) (hin' : ∀ a, o' a + (![256, 8192] : Fin 2 → Nat) a ≤ S256x8192.size a)
    (hin1 : ∀ a, o1 a + (![512, 128] : Fin 2 → Nat) a ≤ S2560x128.size a) (w : Vec Ideal S512x128 .f32)
    (hw : w = k0_pay200 (F := Ideal) (fun x => X ((Rect.unit (s := S2560x8192) o ![512, 8192] hin).idx x)) (fun x => W ((Rect.unit (s := S256x8192) o' ![256, 8192] hin').idx x)) (fun x => m1 ((Rect.unit (s := S2560x128) o1 ![512, 128] hin1).idx x)) (fun x => m2 ((Rect.unit (s := S2560x128) o1 ![512, 128] hin1).idx x))) :
    Block (Val := Elt Ideal) (e := .f32) (R := 2560) (C := 128) (stepM2 (prodT X W) m1 m2) r0 512 128 ⟨Rect.unit (s := S2560x128) o1 ![512, 128] hin1, w⟩ := by
  subst hr; subst hw
  refine ⟨congrFun ho1 0, rfl, rfl, fun _ => rfl, ?_⟩
  intro (x : S512x128.Idx)
  obtain ⟨a, b, rfl⟩ : ∃ (a : Fin 512) (b : Fin 128), x = ix2 a b := ⟨x 0, x 1, eq_ix2 x⟩
  have hh : r + a.val < 2560 := by omega
  have e := rect_rows (R := 2560) (C := 128) (B := 512) r o1 ho1 hin1 a b hh
  refine (pay200_apply _ _ _ _ a b).trans ?_
  rw [pay194_rows X W r o o' ho ho' hin hin' a _ hh, pay194_rows X W r o o' ho ho' hin hin' a _ hh]
  refine Eq.trans ?_ (congrArg (stepM2 (prodT X W) m1 m2) e).symm
  rw [e]
  rfl

theorem blockI1 (X : S2560x8192.Idx → EReal) (W : S256x8192.Idx → EReal) (q : BitVec 32) (m1 : S2560x128.Idx → EReal) (i1 : S2560x128.Idx → BitVec 32) (r r0 : Nat) (hr : r = r0) (h0 : r0 + 512 ≤ 2560) (o o' o1 : Fin 2 → Nat) (ho : o = ![r, 0]) (ho' : o' = ![0, 0]) (ho1 : o1 = ![r, 0])
    (hin : ∀ a, o a + (![512, 8192] : Fin 2 → Nat) a ≤ S2560x8192.size a) (hin' : ∀ a, o' a + (![256, 8192] : Fin 2 → Nat) a ≤ S256x8192.size a)
    (hin1 : ∀ a, o1 a + (![512, 128] : Fin 2 → Nat) a ≤ S2560x128.size a) (w : Vec Ideal S512x128 .i32)
    (hw : w = k0_pay1 (k0_pay198 (F := Ideal) q (fun x => X ((Rect.unit (s := S2560x8192) o ![512, 8192] hin).idx x)) (fun x => W ((Rect.unit (s := S256x8192) o' ![256, 8192] hin').idx x)) (fun x => m1 ((Rect.unit (s := S2560x128) o1 ![512, 128] hin1).idx x)) (fun x => i1 ((Rect.unit (s := S2560x128) o1 ![512, 128] hin1).idx x)))) :
    Block (Val := Elt Ideal) (e := .i32) (R := 2560) (C := 128) (stepI1 q (prodT X W) m1 i1) r0 512 128 ⟨Rect.unit (s := S2560x128) o1 ![512, 128] hin1, w⟩ := by
  subst hr; subst hw
  refine ⟨congrFun ho1 0, rfl, rfl, fun _ => rfl, ?_⟩
  intro (x : S512x128.Idx)
  obtain ⟨a, b, rfl⟩ : ∃ (a : Fin 512) (b : Fin 128), x = ix2 a b := ⟨x 0, x 1, eq_ix2 x⟩
  have hh : r + a.val < 2560 := by omega
  have e := rect_rows (R := 2560) (C := 128) (B := 512) r o1 ho1 hin1 a b hh
  refine (pay198_apply q _ _ _ _ a b).trans ?_
  rw [pay194_rows X W r o o' ho ho' hin hin' a _ hh, pay194_rows X W r o o' ho ho' hin hin' a _ hh]
  refine Eq.trans ?_ (congrArg (stepI1 q (prodT X W) m1 i1) e).symm
  rw [e]
  rfl

/-! ## The loop -/

variable (𝒱 : Variants) (c : Dev nD) (bd : Option 𝒱.V) (i : grid0.Coords) (arg1 : Memref sig .tc .hbm S2560x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (arg13 : DmaSems sig S_)

/-- The first row of a trip. -/
def row_t2 (k : Fin k0_t2_loop.trips) : Nat := (Scalar.indexCast (Scalar.muli (Scf.iv 0#32 1#32 k.val) 512#32) : Index).toNat

theorem row_t2_eq (k : Fin k0_t2_loop.trips) : row_t2 k = 512 * k.val := by
  unfold row_t2; revert k; decide +kernel

theorem trips_t2 : k0_t2_loop.trips = 5 := by decide +kernel

theorem row_t2_le (k : Fin k0_t2_loop.trips) : 512 * k.val + 512 ≤ 2560 := by
  have := k.isLt.trans_eq trips_t2
  omega

/-- One trip's piece of this buffer. -/
theorem rows4 (arg0 : BitVec 32) (X8 : BufTy.Contents (Elt Ideal) arg8.view.ty) (X9 : BufTy.Contents (Elt Ideal) arg9.view.ty) (k : Fin k0_t2_loop.trips) (f4 : BufTy.Contents (Elt Ideal) arg4.view.ty) (f10 : BufTy.Contents (Elt Ideal) arg10.view.ty) (f11 : BufTy.Contents (Elt Ideal) arg11.view.ty) (f12 : BufTy.Contents (Elt Ideal) arg12.view.ty) :
    Rows (Val := Elt Ideal) (e := .f32) (R := 2560) (C := 256) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 k f4 f10 f11 f12).1 (fun y => prodT (arg8.view.read (Elt Ideal) X8) (arg9.view.read (Elt Ideal) X9) (y 0) (y 1)) (512 * k.val) 512 256 := by
  unfold tripL_k0_t2 trip_k0_t2
  dsimp only
  sl_unfold_words
  refine ⟨fun p hp => ?_, by decide, fun q hq => ?_, dvd_rfl⟩
  · obtain rfl := List.mem_singleton.1 hp
    exact blockP _ _ (row_t2 k) _ (row_t2_eq k) (row_t2_le k) _ _ _ rfl rfl rfl _ _ _ _ rfl
  · obtain rfl : q = 0 := by omega
    exact List.mem_singleton.2 rfl

/-- One trip's piece of this buffer. -/
theorem rows10 (arg0 : BitVec 32) (X8 : BufTy.Contents (Elt Ideal) arg8.view.ty) (X9 : BufTy.Contents (Elt Ideal) arg9.view.ty) (k : Fin k0_t2_loop.trips) (f4 : BufTy.Contents (Elt Ideal) arg4.view.ty) (f10 : BufTy.Contents (Elt Ideal) arg10.view.ty) (f11 : BufTy.Contents (Elt Ideal) arg11.view.ty) (f12 : BufTy.Contents (Elt Ideal) arg12.view.ty) :
    Rows (Val := Elt Ideal) (e := .f32) (R := 2560) (C := 128) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 k f4 f10 f11 f12).2.1 (stepM1 (prodT (arg8.view.read (Elt Ideal) X8) (arg9.view.read (Elt Ideal) X9)) (arg10.view.read (Elt Ideal) f10)) (512 * k.val) 512 128 := by
  unfold tripL_k0_t2 trip_k0_t2
  dsimp only
  sl_unfold_words
  refine ⟨fun p hp => ?_, by decide, fun q hq => ?_, dvd_rfl⟩
  · obtain rfl := List.mem_singleton.1 hp
    exact blockM1 _ _ (arg10.view.read (Elt Ideal) f10) (row_t2 k) _ (row_t2_eq k) (row_t2_le k) _ _ _ rfl rfl rfl _ _ _ _ rfl
  · obtain rfl : q = 0 := by omega
    exact List.mem_singleton.2 rfl

/-- One trip's piece of this buffer. -/
theorem rows11 (arg0 : BitVec 32) (X8 : BufTy.Contents (Elt Ideal) arg8.view.ty) (X9 : BufTy.Contents (Elt Ideal) arg9.view.ty) (k : Fin k0_t2_loop.trips) (f4 : BufTy.Contents (Elt Ideal) arg4.view.ty) (f10 : BufTy.Contents (Elt Ideal) arg10.view.ty) (f11 : BufTy.Contents (Elt Ideal) arg11.view.ty) (f12 : BufTy.Contents (Elt Ideal) arg12.view.ty) :
    Rows (Val := Elt Ideal) (e := .f32) (R := 2560) (C := 128) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 k f4 f10 f11 f12).2.2.1 (stepM2 (prodT (arg8.view.read (Elt Ideal) X8) (arg9.view.read (Elt Ideal) X9)) (arg10.view.read (Elt Ideal) f10) (arg11.view.read (Elt Ideal) f11)) (512 * k.val) 512 128 := by
  unfold tripL_k0_t2 trip_k0_t2
  dsimp only
  sl_unfold_words
  refine ⟨fun p hp => ?_, by decide, fun q hq => ?_, dvd_rfl⟩
  · obtain rfl := List.mem_singleton.1 hp
    exact blockM2 _ _ (arg10.view.read (Elt Ideal) f10) (arg11.view.read (Elt Ideal) f11) (row_t2 k) _ (row_t2_eq k) (row_t2_le k) _ _ _ rfl rfl rfl _ _ _ _ rfl
  · obtain rfl : q = 0 := by omega
    exact List.mem_singleton.2 rfl

/-- One trip's piece of this buffer. -/
theorem rows12 (arg0 : BitVec 32) (X8 : BufTy.Contents (Elt Ideal) arg8.view.ty) (X9 : BufTy.Contents (Elt Ideal) arg9.view.ty) (k : Fin k0_t2_loop.trips) (f4 : BufTy.Contents (Elt Ideal) arg4.view.ty) (f10 : BufTy.Contents (Elt Ideal) arg10.view.ty) (f11 : BufTy.Contents (Elt Ideal) arg11.view.ty) (f12 : BufTy.Contents (Elt Ideal) arg12.view.ty) :
    Rows (Val := Elt Ideal) (e := .i32) (R := 2560) (C := 128) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 k f4 f10 f11 f12).2.2.2 (stepI1 arg0 (prodT (arg8.view.read (Elt Ideal) X8) (arg9.view.read (Elt Ideal) X9)) (arg10.view.read (Elt Ideal) f10) (arg12.view.read (Elt Ideal) f12)) (512 * k.val) 512 128 := by
  unfold tripL_k0_t2 trip_k0_t2
  dsimp only
  sl_unfold_words
  refine ⟨fun p hp => ?_, by decide, fun q hq => ?_, dvd_rfl⟩
  · obtain rfl := List.mem_singleton.1 hp
    exact blockI1 _ _ arg0 (arg10.view.read (Elt Ideal) f10) (arg12.view.read (Elt Ideal) f12) (row_t2 k) _ (row_t2_eq k) (row_t2_le k) _ _ _ rfl rfl rfl _ _ _ _ rfl
  · obtain rfl : q = 0 := by omega
    exact List.mem_singleton.2 rfl

/-- This buffer after the trips before `k`. -/
theorem at4_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) :
    ∀ k ≤ k0_t2_loop.trips, ∀ y, arg4.view.read (Elt Ideal) (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) y = if (y 0).val < 512 * k then (fun y => prodT (arg8.view.read (Elt Ideal) X8) (arg9.view.read (Elt Ideal) X9) (y 0) (y 1)) y else (arg4.view.read (Elt Ideal) G4) y := by
  refine rows_loop arg4.view G4 k0_t2_loop.trips (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1)
    (fun k hk => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)).1)
    rfl (fun k hk => congrArg (fun z => z.1) (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 ⟨k, hk⟩))
    (fun y => prodT (arg8.view.read (Elt Ideal) X8) (arg9.view.read (Elt Ideal) X9) (y 0) (y 1)) 512 256 fun k hk hy4 => ?_
  have h := rows4 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)
  exact h

/-- This buffer after the whole loop. -/
theorem loop4_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) (y) :
    arg4.view.read (Elt Ideal) (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 (Scf.trips k0_t2_loop.lb k0_t2_loop.ub k0_t2_loop.st)).1) y = (fun y => prodT (arg8.view.read (Elt Ideal) X8) (arg9.view.read (Elt Ideal) X9) (y 0) (y 1)) y := by
  refine (at4_t2 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k0_t2_loop.trips le_rfl y).trans (if_pos ?_)
  have h : (y 0).val < 2560 := (y 0).isLt
  have e := trips_t2
  omega

/-- This buffer after the trips before `k`. -/
theorem at10_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) :
    ∀ k ≤ k0_t2_loop.trips, ∀ y, arg10.view.read (Elt Ideal) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) y = if (y 0).val < 512 * k then (stepM1 (prodT (arg8.view.read (Elt Ideal) X8) (arg9.view.read (Elt Ideal) X9)) (arg10.view.read (Elt Ideal) G10)) y else (arg10.view.read (Elt Ideal) G10) y := by
  refine rows_loop arg10.view G10 k0_t2_loop.trips (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1)
    (fun k hk => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)).2.1)
    rfl (fun k hk => congrArg (fun z => z.2.1) (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 ⟨k, hk⟩))
    (stepM1 (prodT (arg8.view.read (Elt Ideal) X8) (arg9.view.read (Elt Ideal) X9)) (arg10.view.read (Elt Ideal) G10)) 512 128 fun k hk hy10 => ?_
  have h := rows10 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)
  exact rows_congr h fun y hy => stepM1_congr _ (hy10 y hy)

/-- This buffer after the whole loop. -/
theorem loop10_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) (y) :
    arg10.view.read (Elt Ideal) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 (Scf.trips k0_t2_loop.lb k0_t2_loop.ub k0_t2_loop.st)).2.1) y = (stepM1 (prodT (arg8.view.read (Elt Ideal) X8) (arg9.view.read (Elt Ideal) X9)) (arg10.view.read (Elt Ideal) G10)) y := by
  refine (at10_t2 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k0_t2_loop.trips le_rfl y).trans (if_pos ?_)
  have h : (y 0).val < 2560 := (y 0).isLt
  have e := trips_t2
  omega

/-- This buffer after the trips before `k`. -/
theorem at11_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) :
    ∀ k ≤ k0_t2_loop.trips, ∀ y, arg11.view.read (Elt Ideal) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) y = if (y 0).val < 512 * k then (stepM2 (prodT (arg8.view.read (Elt Ideal) X8) (arg9.view.read (Elt Ideal) X9)) (arg10.view.read (Elt Ideal) G10) (arg11.view.read (Elt Ideal) G11)) y else (arg11.view.read (Elt Ideal) G11) y := by
  refine rows_loop arg11.view G11 k0_t2_loop.trips (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1)
    (fun k hk => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)).2.2.1)
    rfl (fun k hk => congrArg (fun z => z.2.2.1) (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 ⟨k, hk⟩))
    (stepM2 (prodT (arg8.view.read (Elt Ideal) X8) (arg9.view.read (Elt Ideal) X9)) (arg10.view.read (Elt Ideal) G10) (arg11.view.read (Elt Ideal) G11)) 512 128 fun k hk hy11 => ?_
  have h := rows11 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)
  exact rows_congr h fun y hy => stepM2_congr _ ((at10_t2 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k (le_of_lt hk) y).trans (if_neg (Nat.not_lt.2 hy))) (hy11 y hy)

/-- This buffer after the whole loop. -/
theorem loop11_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) (y) :
    arg11.view.read (Elt Ideal) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 (Scf.trips k0_t2_loop.lb k0_t2_loop.ub k0_t2_loop.st)).2.2.1) y = (stepM2 (prodT (arg8.view.read (Elt Ideal) X8) (arg9.view.read (Elt Ideal) X9)) (arg10.view.read (Elt Ideal) G10) (arg11.view.read (Elt Ideal) G11)) y := by
  refine (at11_t2 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k0_t2_loop.trips le_rfl y).trans (if_pos ?_)
  have h : (y 0).val < 2560 := (y 0).isLt
  have e := trips_t2
  omega

/-- This buffer after the trips before `k`. -/
theorem at12_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) :
    ∀ k ≤ k0_t2_loop.trips, ∀ y, arg12.view.read (Elt Ideal) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2) y = if (y 0).val < 512 * k then (stepI1 arg0 (prodT (arg8.view.read (Elt Ideal) X8) (arg9.view.read (Elt Ideal) X9)) (arg10.view.read (Elt Ideal) G10) (arg12.view.read (Elt Ideal) G12)) y else (arg12.view.read (Elt Ideal) G12) y := by
  refine rows_loop arg12.view G12 k0_t2_loop.trips (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)
    (fun k hk => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)).2.2.2)
    rfl (fun k hk => congrArg (fun z => z.2.2.2) (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 ⟨k, hk⟩))
    (stepI1 arg0 (prodT (arg8.view.read (Elt Ideal) X8) (arg9.view.read (Elt Ideal) X9)) (arg10.view.read (Elt Ideal) G10) (arg12.view.read (Elt Ideal) G12)) 512 128 fun k hk hy12 => ?_
  have h := rows12 𝒱 c bd i arg1 harg1 arg2 harg2 arg3 harg3 arg4 harg4 arg5 harg5 arg6 harg6 arg7 harg7 arg8 harg8 arg9 harg9 arg10 harg10 arg11 harg11 arg12 harg12 arg13 arg0 X8 X9 ⟨k, hk⟩ (arg4.view.writes (Elt Ideal) G4 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).1) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.1) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.1) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k).2.2.2)
  exact rows_congr h fun y hy => stepI1_congr _ _ ((at10_t2 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k (le_of_lt hk) y).trans (if_neg (Nat.not_lt.2 hy))) (hy12 y hy)

/-- This buffer after the whole loop. -/
theorem loop12_t2 (arg0 : BitVec 32) (X8 : BufTy.Contents (Elt Ideal) arg8.view.ty) (X9 : BufTy.Contents (Elt Ideal) arg9.view.ty) (G4 : BufTy.Contents (Elt Ideal) arg4.view.ty) (G10 : BufTy.Contents (Elt Ideal) arg10.view.ty) (G11 : BufTy.Contents (Elt Ideal) arg11.view.ty) (G12 : BufTy.Contents (Elt Ideal) arg12.view.ty) (y) :
    arg12.view.read (Elt Ideal) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 (Scf.trips k0_t2_loop.lb k0_t2_loop.ub k0_t2_loop.st)).2.2.2) y = (stepI1 arg0 (prodT (arg8.view.read (Elt Ideal) X8) (arg9.view.read (Elt Ideal) X9)) (arg10.view.read (Elt Ideal) G10) (arg12.view.read (Elt Ideal) G12)) y := by
  refine (at12_t2 𝒱 c bd i arg1 harg1 arg2 harg2 arg3 harg3 arg4 harg4 arg5 harg5 arg6 harg6 arg7 harg7 arg8 harg8 arg9 harg9 arg10 harg10 arg11 harg11 arg12 harg12 arg13 arg0 X8 X9 G4 G10 G11 G12 k0_t2_loop.trips le_rfl y).trans (if_pos ?_)
  have h : (y 0).val < 2560 := (y 0).isLt
  have e := trips_t2
  omega

end Cert.Proof
end
-- ==== Proof.Last.lean ====
module
public import proofs.«01_k».proof.Proof.Sweep
@[expose] public section
set_option maxRecDepth 16384

/-!
# The last point's loop: each row's 128 lanes combined into the row's token, margin and greatest value
-/

noncomputable section
namespace Cert.Proof
open Cert.KernelIdeal Cert.KernelIdeal.Gen Idealize.ShloMosaic Idealize.ShloMosaic.TcCoe Idealize.ShloMosaic.Tactic Idealize.SL.Sem

/-- Each row's token. -/
def tokRow (m1 : S2560x128.Idx → EReal) (i1 : S2560x128.Idx → BitVec 32) (y : S2560x1.Idx) : BitVec 32 :=
  tokOf (fun l => m1 (ix2 (n0 := 2560) (n1 := 128) (y 0) l)) (fun l => i1 (ix2 (n0 := 2560) (n1 := 128) (y 0) l))

/-- Each row's greatest value. -/
def topRow (m1 : S2560x128.Idx → EReal) (y : S2560x1.Idx) : EReal := topOf fun l => m1 (ix2 (n0 := 2560) (n1 := 128) (y 0) l)

/-- Each row's margin. -/
def marginRow (m1 m2 : S2560x128.Idx → EReal) (i1 : S2560x128.Idx → BitVec 32) (y : S2560x1.Idx) : EReal :=
  topRow m1 y - secOf (fun l => m1 (ix2 (n0 := 2560) (n1 := 128) (y 0) l)) (fun l => m2 (ix2 (n0 := 2560) (n1 := 128) (y 0) l))
    (fun l => i1 (ix2 (n0 := 2560) (n1 := 128) (y 0) l))

theorem blockTok (m1 : S2560x128.Idx → EReal) (i1 : S2560x128.Idx → BitVec 32) (r r0 : Nat) (hr : r = r0) (h0 : r0 + 256 ≤ 2560) (o o1 : Fin 2 → Nat) (ho : o = ![r, 0]) (ho1 : o1 = ![r, 0])
    (hin : ∀ a, o a + (![256, 128] : Fin 2 → Nat) a ≤ S2560x128.size a)
    (hin1 : ∀ a, o1 a + (![256, 1] : Fin 2 → Nat) a ≤ S2560x1.size a) (w : Vec Ideal S256x1 .i32) (hw : w = k0_pay4 (F := Ideal) (fun x => m1 ((Rect.unit (s := S2560x128) o ![256, 128] hin).idx x)) (fun x => i1 ((Rect.unit (s := S2560x128) o ![256, 128] hin).idx x))) :
    Block (Val := Elt Ideal) (e := .i32) (R := 2560) (C := 1) (tokRow m1 i1) r0 256 1 ⟨Rect.unit (s := S2560x1) o1 ![256, 1] hin1, w⟩ := by
  subst hr; subst hw
  refine ⟨congrFun ho1 0, rfl, rfl, fun _ => rfl, ?_⟩
  intro (x : S256x1.Idx)
  obtain ⟨a, b, rfl⟩ : ∃ (a : Fin 256) (b : Fin 1), x = ix2 a b := ⟨x 0, x 1, eq_ix2 x⟩
  have hh : r + a.val < 2560 := by omega
  have e := rect_rows (R := 2560) (C := 1) (B := 256) r o1 ho1 hin1 a b hh
  have e2 : ∀ l : Fin 128, (Rect.unit (s := S2560x128) o ![256, 128] hin).idx (ix2 a l) = ix2 (⟨r + a.val, hh⟩ : Fin 2560) l :=
    fun l => rect_rows (R := 2560) (C := 128) (B := 256) r o ho hin a l hh
  dsimp only
  rw [pay4_apply]
  refine Eq.trans ?_ (congrArg (tokRow m1 i1) e).symm
  simp only [e2]
  rfl

theorem blockMargin (m1 m2 : S2560x128.Idx → EReal) (i1 : S2560x128.Idx → BitVec 32) (r r0 : Nat) (hr : r = r0) (h0 : r0 + 256 ≤ 2560) (o o1 : Fin 2 → Nat) (ho : o = ![r, 0]) (ho1 : o1 = ![r, 0])
    (hin : ∀ a, o a + (![256, 128] : Fin 2 → Nat) a ≤ S2560x128.size a)
    (hin1 : ∀ a, o1 a + (![256, 1] : Fin 2 → Nat) a ≤ S2560x1.size a) (w : Vec Ideal S256x1 .f32) (hw : w = k0_pay5 (F := Ideal) (fun x => m1 ((Rect.unit (s := S2560x128) o ![256, 128] hin).idx x)) (fun x => m2 ((Rect.unit (s := S2560x128) o ![256, 128] hin).idx x)) (fun x => i1 ((Rect.unit (s := S2560x128) o ![256, 128] hin).idx x))) :
    Block (Val := Elt Ideal) (e := .f32) (R := 2560) (C := 1) (marginRow m1 m2 i1) r0 256 1 ⟨Rect.unit (s := S2560x1) o1 ![256, 1] hin1, w⟩ := by
  subst hr; subst hw
  refine ⟨congrFun ho1 0, rfl, rfl, fun _ => rfl, ?_⟩
  intro (x : S256x1.Idx)
  obtain ⟨a, b, rfl⟩ : ∃ (a : Fin 256) (b : Fin 1), x = ix2 a b := ⟨x 0, x 1, eq_ix2 x⟩
  have hh : r + a.val < 2560 := by omega
  have e := rect_rows (R := 2560) (C := 1) (B := 256) r o1 ho1 hin1 a b hh
  have e2 : ∀ l : Fin 128, (Rect.unit (s := S2560x128) o ![256, 128] hin).idx (ix2 a l) = ix2 (⟨r + a.val, hh⟩ : Fin 2560) l :=
    fun l => rect_rows (R := 2560) (C := 128) (B := 256) r o ho hin a l hh
  dsimp only
  rw [pay5_apply]
  refine Eq.trans ?_ (congrArg (marginRow m1 m2 i1) e).symm
  simp only [e2]
  rfl

theorem blockTop (m1 : S2560x128.Idx → EReal) (r r0 : Nat) (hr : r = r0) (h0 : r0 + 256 ≤ 2560) (o o1 : Fin 2 → Nat) (ho : o = ![r, 0]) (ho1 : o1 = ![r, 0])
    (hin : ∀ a, o a + (![256, 128] : Fin 2 → Nat) a ≤ S2560x128.size a)
    (hin1 : ∀ a, o1 a + (![256, 1] : Fin 2 → Nat) a ≤ S2560x1.size a) (w : Vec Ideal S256x1 .f32) (hw : w = k0_pay3 (F := Ideal) (fun x => m1 ((Rect.unit (s := S2560x128) o ![256, 128] hin).idx x))) :
    Block (Val := Elt Ideal) (e := .f32) (R := 2560) (C := 1) (topRow m1) r0 256 1 ⟨Rect.unit (s := S2560x1) o1 ![256, 1] hin1, w⟩ := by
  subst hr; subst hw
  refine ⟨congrFun ho1 0, rfl, rfl, fun _ => rfl, ?_⟩
  intro (x : S256x1.Idx)
  obtain ⟨a, b, rfl⟩ : ∃ (a : Fin 256) (b : Fin 1), x = ix2 a b := ⟨x 0, x 1, eq_ix2 x⟩
  have hh : r + a.val < 2560 := by omega
  have e := rect_rows (R := 2560) (C := 1) (B := 256) r o1 ho1 hin1 a b hh
  have e2 : ∀ l : Fin 128, (Rect.unit (s := S2560x128) o ![256, 128] hin).idx (ix2 a l) = ix2 (⟨r + a.val, hh⟩ : Fin 2560) l :=
    fun l => rect_rows (R := 2560) (C := 128) (B := 256) r o ho hin a l hh
  dsimp only
  rw [pay3_apply]
  refine Eq.trans ?_ (congrArg (topRow m1) e).symm
  simp only [e2]
  rfl

variable (𝒱 : Variants) (c : Dev nD) (bd : Option 𝒱.V) (i : grid0.Coords) (arg1 : Memref sig .tc .hbm S2560x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole) (arg13 : DmaSems sig S_)

/-- The first row of a trip. -/
def row_t3 (k : Fin k0_t3_loop.trips) : Nat := (Scalar.indexCast (Scalar.muli (Scf.iv 0#32 1#32 k.val) 256#32) : Index).toNat

theorem row_t3_eq (k : Fin k0_t3_loop.trips) : row_t3 k = 256 * k.val := by
  unfold row_t3; revert k; decide +kernel

theorem trips_t3 : k0_t3_loop.trips = 10 := by decide +kernel

theorem row_t3_le (k : Fin k0_t3_loop.trips) : 256 * k.val + 256 ≤ 2560 := by
  have := k.isLt.trans_eq trips_t3
  omega

/-- One trip's piece of this buffer. -/
theorem rows5 (k0_h2 : k0_cond2 i = 1#1) (X10 : BufTy.Contents (Elt Ideal) arg10.view.ty) (X11 : BufTy.Contents (Elt Ideal) arg11.view.ty) (X12 : BufTy.Contents (Elt Ideal) arg12.view.ty) (k : Fin k0_t3_loop.trips) :
    Rows (Val := Elt Ideal) (e := .i32) (R := 2560) (C := 1) (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 k).1 (tokRow (arg10.view.read (Elt Ideal) X10) (arg12.view.read (Elt Ideal) X12)) (256 * k.val) 256 1 := by
  unfold tripL_k0_t3 trip_k0_t3
  dsimp only
  sl_unfold_words
  refine ⟨fun p hp => ?_, by decide, fun q hq => ?_, dvd_rfl⟩
  · obtain rfl := List.mem_singleton.1 hp
    exact blockTok (arg10.view.read (Elt Ideal) X10) (arg12.view.read (Elt Ideal) X12) (row_t3 k) _ (row_t3_eq k) (row_t3_le k) _ _ rfl rfl _ _ _ rfl
  · obtain rfl : q = 0 := by omega
    exact List.mem_singleton.2 rfl

/-- This buffer after the whole loop. -/
theorem loop5_t3 (k0_h2 : k0_cond2 i = 1#1) (X10 : BufTy.Contents (Elt Ideal) arg10.view.ty) (X11 : BufTy.Contents (Elt Ideal) arg11.view.ty) (X12 : BufTy.Contents (Elt Ideal) arg12.view.ty) (G5 : BufTy.Contents (Elt Ideal) arg5.view.ty) (y) :
    arg5.view.read (Elt Ideal) (arg5.view.writes (Elt Ideal) G5 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 (Scf.trips k0_t3_loop.lb k0_t3_loop.ub k0_t3_loop.st)).1) y = (tokRow (arg10.view.read (Elt Ideal) X10) (arg12.view.read (Elt Ideal) X12)) y := by
  refine (rows_loop arg5.view G5 k0_t3_loop.trips (fun k => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 k).1)
    (fun k hk => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩).1)
    rfl (fun k hk => congrArg (fun z => z.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩))
    (tokRow (arg10.view.read (Elt Ideal) X10) (arg12.view.read (Elt Ideal) X12)) 256 1 (fun k hk _ => rows5 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩) k0_t3_loop.trips le_rfl y).trans (if_pos ?_)
  have h : (y 0).val < 2560 := (y 0).isLt
  have e := trips_t3
  omega

/-- One trip's piece of this buffer. -/
theorem rows6 (k0_h2 : k0_cond2 i = 1#1) (X10 : BufTy.Contents (Elt Ideal) arg10.view.ty) (X11 : BufTy.Contents (Elt Ideal) arg11.view.ty) (X12 : BufTy.Contents (Elt Ideal) arg12.view.ty) (k : Fin k0_t3_loop.trips) :
    Rows (Val := Elt Ideal) (e := .f32) (R := 2560) (C := 1) (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 k).2.1 (marginRow (arg10.view.read (Elt Ideal) X10) (arg11.view.read (Elt Ideal) X11) (arg12.view.read (Elt Ideal) X12)) (256 * k.val) 256 1 := by
  unfold tripL_k0_t3 trip_k0_t3
  dsimp only
  sl_unfold_words
  refine ⟨fun p hp => ?_, by decide, fun q hq => ?_, dvd_rfl⟩
  · obtain rfl := List.mem_singleton.1 hp
    exact blockMargin (arg10.view.read (Elt Ideal) X10) (arg11.view.read (Elt Ideal) X11) (arg12.view.read (Elt Ideal) X12) (row_t3 k) _ (row_t3_eq k) (row_t3_le k) _ _ rfl rfl _ _ _ rfl
  · obtain rfl : q = 0 := by omega
    exact List.mem_singleton.2 rfl

/-- This buffer after the whole loop. -/
theorem loop6_t3 (k0_h2 : k0_cond2 i = 1#1) (X10 : BufTy.Contents (Elt Ideal) arg10.view.ty) (X11 : BufTy.Contents (Elt Ideal) arg11.view.ty) (X12 : BufTy.Contents (Elt Ideal) arg12.view.ty) (G6 : BufTy.Contents (Elt Ideal) arg6.view.ty) (y) :
    arg6.view.read (Elt Ideal) (arg6.view.writes (Elt Ideal) G6 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 (Scf.trips k0_t3_loop.lb k0_t3_loop.ub k0_t3_loop.st)).2.1) y = (marginRow (arg10.view.read (Elt Ideal) X10) (arg11.view.read (Elt Ideal) X11) (arg12.view.read (Elt Ideal) X12)) y := by
  refine (rows_loop arg6.view G6 k0_t3_loop.trips (fun k => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 k).2.1)
    (fun k hk => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩).2.1)
    rfl (fun k hk => congrArg (fun z => z.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩))
    (marginRow (arg10.view.read (Elt Ideal) X10) (arg11.view.read (Elt Ideal) X11) (arg12.view.read (Elt Ideal) X12)) 256 1 (fun k hk _ => rows6 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩) k0_t3_loop.trips le_rfl y).trans (if_pos ?_)
  have h : (y 0).val < 2560 := (y 0).isLt
  have e := trips_t3
  omega

/-- One trip's piece of this buffer. -/
theorem rows7 (k0_h2 : k0_cond2 i = 1#1) (X10 : BufTy.Contents (Elt Ideal) arg10.view.ty) (X11 : BufTy.Contents (Elt Ideal) arg11.view.ty) (X12 : BufTy.Contents (Elt Ideal) arg12.view.ty) (k : Fin k0_t3_loop.trips) :
    Rows (Val := Elt Ideal) (e := .f32) (R := 2560) (C := 1) (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 k).2.2 (topRow (arg10.view.read (Elt Ideal) X10)) (256 * k.val) 256 1 := by
  unfold tripL_k0_t3 trip_k0_t3
  dsimp only
  sl_unfold_words
  refine ⟨fun p hp => ?_, by decide, fun q hq => ?_, dvd_rfl⟩
  · obtain rfl := List.mem_singleton.1 hp
    exact blockTop (arg10.view.read (Elt Ideal) X10) (row_t3 k) _ (row_t3_eq k) (row_t3_le k) _ _ rfl rfl _ _ _ rfl
  · obtain rfl : q = 0 := by omega
    exact List.mem_singleton.2 rfl

/-- This buffer after the whole loop. -/
theorem loop7_t3 (k0_h2 : k0_cond2 i = 1#1) (X10 : BufTy.Contents (Elt Ideal) arg10.view.ty) (X11 : BufTy.Contents (Elt Ideal) arg11.view.ty) (X12 : BufTy.Contents (Elt Ideal) arg12.view.ty) (G7 : BufTy.Contents (Elt Ideal) arg7.view.ty) (y) :
    arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 (Scf.trips k0_t3_loop.lb k0_t3_loop.ub k0_t3_loop.st)).2.2) y = (topRow (arg10.view.read (Elt Ideal) X10)) y := by
  refine (rows_loop arg7.view G7 k0_t3_loop.trips (fun k => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 k).2.2)
    (fun k hk => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩).2.2)
    rfl (fun k hk => congrArg (fun z => z.2.2) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩))
    (topRow (arg10.view.read (Elt Ideal) X10)) 256 1 (fun k hk _ => rows7 𝒱 c bd i arg1 harg1 arg2 harg2 arg3 harg3 arg4 harg4 arg5 harg5 arg6 harg6 arg7 harg7 arg8 harg8 arg9 harg9 arg10 harg10 arg11 harg11 arg12 harg12 arg13 k0_h2 X10 X11 X12 ⟨k, hk⟩) k0_t3_loop.trips le_rfl y).trans (if_pos ?_)
  have h : (y 0).val < 2560 := (y 0).isLt
  have e := trips_t3
  omega

end Cert.Proof
end
-- ==== Proof.Dequant.lean ====
module
public import proofs.«01_k».proof.Proof.IdealFrame
public import proofs.«01_k».proof.Proof.Tile
public import Idealize.ShloMosaic.Lib.Pointwise
public import Idealize.ShloMosaic.Lib.BitcastFour
@[expose] public section
set_option maxRecDepth 16384

/-! The scratch block of expanded weights. The body fills it with sixty-four stores of one register column each; here
    those stores are written as one list that runs over the column groups, and the block they leave is read as plain
    arithmetic on the packed weights and the scales. -/

noncomputable section
namespace Cert.Proof
open Cert.KernelIdeal Cert.KernelIdeal.Gen Idealize.ShloMosaic Idealize.ShloMosaic.TcCoe Idealize.ShloMosaic.Tactic Idealize.SL.Sem

/-- The low four bits of each packed byte, less eight. -/
def dqLo (p : Vec Ideal S256x128 .i8) : FVec Ideal S256x128 .bf16 :=
  subf (sitofp .bf16 (bitcast S256x128 8 (andi (bitcast S64x128 32 p bitcasts_S256x128_w8_S64x128_w32) (broadcast S64x128 252645135#32))
    bitcasts_S64x128_w32_S256x128_w8)) (broadcast S256x128 (Scalar.ofBits .bf16 0x4100#16))

/-- The high four bits of each packed byte, less eight. -/
def dqHi (p : Vec Ideal S256x128 .i8) : FVec Ideal S256x128 .bf16 :=
  subf (sitofp .bf16 (bitcast S256x128 8 (andi (shrui (bitcast S64x128 32 p bitcasts_S256x128_w8_S64x128_w32) (broadcast S64x128 4#32))
    (broadcast S64x128 252645135#32)) bitcasts_S64x128_w32_S256x128_w8)) (broadcast S256x128 (Scalar.ofBits .bf16 0x4100#16))

/-- The lane a scale is taken from: `off` plus one for every sixteen lanes. -/
def dqLane (off : BitVec 32) : IVec S256x128 32 :=
  let v3 : IVec S256x128 32 := iota Kind.tc S256x128 32 [1] iota_S256x128_d1_w32
  have v1913 : IVec S256x128 32 := broadcast S256x128 16#32
  have v1914 : IVec S256x128 32 := divsi v3 v1913
  have v1915 : IVec S256x128 32 := broadcast S256x128 0#32
  have v1916 : IVec S256x128 1 := cmpi .sgt v3 v1915
  have v1917 : IVec S256x128 32 := extui 32 v1916 natLt_1_32
  have v1918 : IVec S256x128 32 := broadcast S256x128 0#32
  have v1919 : IVec S256x128 1 := cmpi .slt v3 v1918
  have v1920 : IVec S256x128 32 := extui 32 v1919 natLt_1_32
  have v1921 : IVec S256x128 32 := subi v1917 v1920
  let v1922 : BitVec 1 := Scalar.cmpi .sgt 16#32 0#32
  let v1923 : BitVec 32 := Scalar.extui v1922
  let v1924 : BitVec 1 := Scalar.cmpi .slt 16#32 0#32
  let v1925 : BitVec 32 := Scalar.extui v1924
  let v1926 : BitVec 32 := Scalar.subi v1923 v1925
  have v1927 : IVec S256x128 32 := broadcast S256x128 v1926
  have v1928 : IVec S256x128 1 := cmpi .ne v1921 v1927
  have v1929 : IVec S256x128 32 := broadcast S256x128 16#32
  have v1930 : IVec S256x128 32 := remsi v3 v1929
  have v1931 : IVec S256x128 32 := broadcast S256x128 0#32
  have v1932 : IVec S256x128 1 := cmpi .ne v1930 v1931
  have v1933 : IVec S256x128 1 := andi v1928 v1932
  have v1934 : IVec S256x128 32 := broadcast S256x128 1#32
  have v1935 : IVec S256x128 32 := subi v1914 v1934
  have v1936 : IVec S256x128 32 := select v1933 v1935 v1914
  have v1937 : IVec S256x128 32 := broadcast S256x128 off
  have v1938 : IVec S256x128 32 := addi v1937 v1936
  have v1939 : IVec S256x128 32 := broadcast S256x128 0#32
  have v1940 : IVec S256x128 1 := cmpi .slt v1938 v1939
  have v1941 : IVec S256x128 32 := broadcast S256x128 128#32
  have v1942 : IVec S256x128 32 := addi v1938 v1941
  have v1943 : IVec S256x128 32 := select v1940 v1942 v1938
  v1943

/-- Each lane's scale. -/
def dqScale (off : BitVec 32) (s : Vec Ideal S256x128 .bf16) : FVec Ideal S256x128 .bf16 :=
  truncf .bf16 (dynamicGather 1 (extf .f32 s bitsLt_bf16_f32)
    (shapeCast S256x128 (shapeCast S256x128x1 (dqLane off) shapeCasts_S256x128_S256x128x1) shapeCasts_S256x128x1_S256x128)) bitsLt_bf16_f32

/-- A block of one register column lies inside the block it is cut from. -/
theorem col_inb {w o : ℕ} (h : o + 128 ≤ w) : ∀ a : Fin 2, (![0, o] : Fin 2 → ℕ) a + S256x128.size a ≤ (⟨2, ![256, w]⟩ : Shape).size a := by
  intro a
  fin_cases a
  · exact le_refl 256
  · exact h

variable (arg2 : Memref sig .tc .vmem S256x4096 .i8) (harg2 : arg2.IsWhole) (arg3 : Memref sig .tc .vmem S256x256 .bf16) (harg3 : arg3.IsWhole)
  (x0 : Vec Ideal S256x4096 .i8) (x1 : Vec Ideal S256x256 .bf16)

/-- The packed bytes the two stores of group `t` are made from. -/
def dqBytes (t : ℕ) (h : t < 32) : Vec Ideal S256x128 .i8 :=
  View.readAt (Elt Ideal) arg2.view (Rect.unit (s := S256x4096) ![0, 128 * t] S256x128.size (col_inb (by omega))).toLoadRect (harg2.unread x0)

/-- The scales the two stores of group `t` are made from. -/
def dqScales (t : ℕ) (h : t < 32) : Vec Ideal S256x128 .bf16 :=
  dqScale (BitVec.ofNat 32 (8 * t % 128)) (View.readAt (Elt Ideal) arg3.view (Rect.unit (s := S256x256) ![0, 128 * (t / 16)] S256x128.size (col_inb (by omega))).toLoadRect (harg3.unread x1))

/-- The stores of the first `n` groups, latest first. -/
def dqList : (n : ℕ) → n ≤ 32 → List (View.Piece (Elt Ideal) S256x8192 .bf16)
  | 0, _ => []
  | t + 1, h =>
    ⟨Rect.unit (s := S256x8192) ![0, 256 * t + 128] S256x128.size (col_inb (by omega)),
      shapeCast S256x128 (mulf (dqHi (dqBytes arg2 harg2 x0 t h)) (dqScales arg3 harg3 x1 t h)) shapeCasts_S256x128_S256x128⟩ ::
    ⟨Rect.unit (s := S256x8192) ![0, 256 * t] S256x128.size (col_inb (by omega)),
      shapeCast S256x128 (mulf (dqLo (dqBytes arg2 harg2 x0 t h)) (dqScales arg3 harg3 x1 t h)) shapeCasts_S256x128_S256x128⟩ ::
    dqList t (Nat.le_of_succ_le h)

/-- The stores of the first point are that list. -/
theorem dq_A (c : Dev nD) : kernelRun0_A.sl.HS1_64 (F := Ideal) c arg2 harg2 arg3 harg3 x0 x1 = dqList arg2 harg2 arg3 harg3 x0 x1 32 le_rfl := rfl

/-- The stores of the points between are that list. -/
theorem dq_B (c : Dev nD) : kernelRun0_B.sl.HS1_64 (F := Ideal) c arg2 harg2 arg3 harg3 x0 x1 = dqList arg2 harg2 arg3 harg3 x0 x1 32 le_rfl := rfl

/-- The stores of the last point are that list. -/
theorem dq_C (c : Dev nD) : kernelRun0_C.sl.HS1_64 (F := Ideal) c arg2 harg2 arg3 harg3 x0 x1 = dqList arg2 harg2 arg3 harg3 x0 x1 32 le_rfl := rfl

omit harg2 harg3 in
/-- A byte of a block of words read back: bit `q` of row `r` is bit `8 * (r % 4) + q` of word row `r / 4`. -/
theorem down_getLsbD (x : IVec S64x128 32) (r : Fin 256) (l : Fin 128) (q : ℕ) (hq : q < 8) :
    (bitcast S256x128 8 x bitcasts_S64x128_w32_S256x128_w8 (ix2 r l)).getLsbD q
      = (x (ix2 (n0 := 64) (n1 := 128) ⟨r.val / 4, by omega⟩ l)).getLsbD (8 * (r.val % 4) + q) := by
  rw [bitcast_getLsbD x bitcasts_S64x128_w32_S256x128_w8 _ q hq (by decide)]
  have hr : S256x128.row (ix2 r l) = r.val := rfl
  congr 1
  · refine congrArg x (Shape.idx_ext₂ ?_ ?_)
    · exact (Shape.Bitcasts.srcIdx_row _ _ _ _ ⟨0, Nat.zero_lt_two⟩ rfl).trans (by rw [hr]; show _ = r.val / 4; omega)
    · exact Shape.Bitcasts.srcIdx_other _ _ _ _ ⟨1, Nat.one_lt_two⟩ (by show ¬ 1 + 2 = 2; omega)
  · rw [hr]; omega

/-- A bit of a word of a block of bytes. -/
theorem up_getLsbD (p : IVec S256x128 8) (a : Fin 64) (l : Fin 128) (q : ℕ) (hq : q < 32) (r : Fin 256) (hr : r.val = 4 * a.val + q / 8) :
    (bitcast S64x128 32 p bitcasts_S256x128_w8_S64x128_w32 (ix2 a l)).getLsbD q = (p (ix2 r l)).getLsbD (q % 8) :=
  bitcast_8_32_getLsbD_ix2 p bitcasts_S256x128_w8_S64x128_w32 a l q hq r hr

/-- The mask of low nibbles, bit by bit. -/
theorem mask_bit : ∀ (k : Fin 4) (i : Fin 8), (252645135#32).getLsbD (8 * k.val + i.val) = (15#8).getLsbD i.val := by decide

theorem lo_byte (p : IVec S256x128 8) (r : Fin 256) (l : Fin 128) :
    bitcast S256x128 8 (andi (bitcast S64x128 32 p bitcasts_S256x128_w8_S64x128_w32) (broadcast S64x128 252645135#32))
      bitcasts_S64x128_w32_S256x128_w8 (ix2 r l) = p (ix2 r l) &&& 15#8 := by
  apply BitVec.eq_of_getLsbD_eq
  intro i hi
  rw [down_getLsbD _ r l i hi]
  show (bitcast S64x128 32 p bitcasts_S256x128_w8_S64x128_w32 _ &&& 252645135#32).getLsbD _ = _
  rw [BitVec.getLsbD_and, BitVec.getLsbD_and, mask_bit ⟨r.val % 4, by omega⟩ ⟨i, hi⟩,
    up_getLsbD p _ l _ (by omega) r (by show r.val = 4 * (r.val / 4) + _; omega)]
  congr 2
  omega

theorem hi_byte (p : IVec S256x128 8) (r : Fin 256) (l : Fin 128) :
    bitcast S256x128 8 (andi (shrui (bitcast S64x128 32 p bitcasts_S256x128_w8_S64x128_w32) (broadcast S64x128 4#32)) (broadcast S64x128 252645135#32))
      bitcasts_S64x128_w32_S256x128_w8 (ix2 r l) = p (ix2 r l) >>> 4 := by
  apply BitVec.eq_of_getLsbD_eq
  intro i hi
  rw [down_getLsbD _ r l i hi]
  show (bitcast S64x128 32 p bitcasts_S256x128_w8_S64x128_w32 _ >>> 4 &&& 252645135#32).getLsbD _ = _
  rw [BitVec.getLsbD_and, mask_bit ⟨r.val % 4, by omega⟩ ⟨i, hi⟩, BitVec.getLsbD_ushiftRight, BitVec.getLsbD_ushiftRight]
  by_cases h4 : i < 4
  · rw [up_getLsbD p _ l _ (by omega) r (by show r.val = 4 * (r.val / 4) + _; omega)]
    have : (15#8).getLsbD i = true := by interval_cases i <;> rfl
    rw [this, Bool.and_true]
    congr 1
    omega
  · have : (15#8).getLsbD i = false := by interval_cases i <;> first | rfl | omega
    rw [this, Bool.and_false, BitVec.getLsbD_of_ge _ _ (by omega)]

/-- Eight, as the constant the kernel writes. -/
def eight : EReal := Scalar.ofBits (F := Ideal) .bf16 0x4100#16

theorem dqLo_apply (p : Vec Ideal S256x128 .i8) (r : Fin 256) (l : Fin 128) :
    dqLo p (ix2 r l) = (((p (ix2 r l) &&& 15#8 : BitVec 8).toInt : ℝ) : EReal) - eight :=
  congrArg (fun b : BitVec 8 => ((b.toInt : ℝ) : EReal) - eight) (lo_byte p r l)

theorem dqHi_apply (p : Vec Ideal S256x128 .i8) (r : Fin 256) (l : Fin 128) :
    dqHi p (ix2 r l) = (((p (ix2 r l) >>> 4 : BitVec 8).toInt : ℝ) : EReal) - eight :=
  congrArg (fun b : BitVec 8 => ((b.toInt : ℝ) : EReal) - eight) (hi_byte p r l)

/-- The lane arithmetic, over its two small numbers. -/
theorem dqLane_apply (q : Fin 16) (r : Fin 256) (l : Fin 128) :
    (dqLane (BitVec.ofNat 32 (8 * q.val)) (ix2 r l)).toNat = 8 * q.val + l.val / 16 := by
  unfold dqLane
  pointwise
  revert q l
  decide +kernel

theorem dqScale_apply (q : Fin 16) (s : Vec Ideal S256x128 .bf16) (r : Fin 256) (l : Fin 128) :
    dqScale (BitVec.ofNat 32 (8 * q.val)) s (ix2 r l) = s (ix2 (n0 := 256) (n1 := 128) r ⟨8 * q.val + l.val / 16, by omega⟩) := by
  unfold dqScale
  rw [shapeCast_shapeCast]
  refine congrArg (s : S256x128.Idx → EReal) (Shape.idx_ext₂ rfl ?_)
  show (dqLane (BitVec.ofNat 32 (8 * q.val)) (ix2 r l)).toNat % 128 = _
  rw [dqLane_apply]
  show _ = 8 * q.val + l.val / 16
  omega

/-- The expanded weights in the order they are kept in: column `256 t + 128 h + l` is nibble `h` of packed column
    `128 t + l`, less eight, times scale `8 t + l / 16`. -/
def wdeint (y : S256x8192.Idx) : EReal :=
  let b : BitVec 8 := x0 (ix2 (n0 := 256) (n1 := 4096) (y 0) ⟨128 * ((y 1).val / 256) + (y 1).val % 128, by have : (y 1).val < 8192 := (y 1).isLt; omega⟩)
  (((((if (y 1).val % 256 < 128 then b &&& 15#8 else b >>> 4 : BitVec 8).toInt : ℝ) : EReal) - eight)
    * x1 (ix2 (n0 := 256) (n1 := 256) (y 0) ⟨8 * ((y 1).val / 256) + (y 1).val % 128 / 16, by have : (y 1).val < 8192 := (y 1).isLt; omega⟩) : EReal)

theorem dqBytes_apply (t : ℕ) (h : t < 32) (r : Fin 256) (l : Fin 128) :
    dqBytes arg2 harg2 x0 t h (ix2 r l) = x0 (ix2 (n0 := 256) (n1 := 4096) r ⟨128 * t + l.val, by omega⟩) := by
  unfold dqBytes
  rw [View.readAt_apply, harg2.read_unread]
  refine congrArg x0 (Shape.idx_ext₂ ?_ ?_)
  · show 0 + 1 * r.val = r.val; omega
  · show 128 * t + 1 * l.val = 128 * t + l.val; omega

theorem dqScales_apply (t : ℕ) (h : t < 32) (r : Fin 256) (l : Fin 128) :
    dqScales arg3 harg3 x1 t h (ix2 r l) = x1 (ix2 (n0 := 256) (n1 := 256) r ⟨8 * t + l.val / 16, by omega⟩) := by
  unfold dqScales
  have e : 8 * t % 128 = 8 * (t % 16) := by omega
  rw [e, dqScale_apply ⟨t % 16, by omega⟩, View.readAt_apply, harg3.read_unread]
  refine congrArg x1 (Shape.idx_ext₂ ?_ ?_)
  · show 0 + 1 * r.val = r.val; omega
  · show 128 * (t / 16) + 1 * (8 * (t % 16) + l.val / 16) = 8 * t + l.val / 16; omega

/-- The expanded weights at a column given by its group, its half and its lane. -/
theorem wdeint_eq (y : S256x8192.Idx) (r : Fin 256) (l : Fin 128) (t h : ℕ) (ht : t < 32) (hh : h < 2) (h0 : (y 0).val = r.val)
    (h1 : (y 1).val = 256 * t + 128 * h + l.val) :
    wdeint x0 x1 y = (((((if h = 0 then (x0 (ix2 (n0 := 256) (n1 := 4096) r ⟨128 * t + l.val, by omega⟩) : BitVec 8) &&& 15#8
        else (x0 (ix2 (n0 := 256) (n1 := 4096) r ⟨128 * t + l.val, by omega⟩) : BitVec 8) >>> 4 : BitVec 8).toInt : ℝ) : EReal) - eight)
      * x1 (ix2 (n0 := 256) (n1 := 256) r ⟨8 * t + l.val / 16, by omega⟩) : EReal) := by
  have e0 : y 0 = r := Fin.ext h0
  have hd : (y 1).val / 256 = t := by omega
  have hm : (y 1).val % 128 = l.val := by omega
  have hc : ((y 1).val % 256 < 128) ↔ h = 0 := by omega
  unfold wdeint
  simp only [hd, hm, hc]
  rw [e0]

theorem dqList_val (n : ℕ) (hn : n ≤ 32) : ∀ p ∈ dqList arg2 harg2 arg3 harg3 x0 x1 n hn, ∀ x, p.2 x = wdeint x0 x1 (p.1.emb x) := by
  induction n with
  | zero => intro p hp; exact absurd hp List.not_mem_nil
  | succ t ih =>
    intro p hp
    rcases List.mem_cons.1 hp with rfl | hp
    · intro x
      obtain ⟨r, l, rfl⟩ : ∃ (r : Fin 256) (l : Fin 128), x = ix2 r l := ⟨x 0, x 1, eq_ix2 x⟩
      dsimp only
      rw [shapeCast_self]
      show (dqHi (dqBytes arg2 harg2 x0 t hn) (ix2 r l) * dqScales arg3 harg3 x1 t hn (ix2 r l) : EReal) = _
      rw [dqHi_apply, dqBytes_apply, dqScales_apply]
      refine (wdeint_eq x0 x1 _ r l t 1 hn (by omega) (by show 0 + 1 * r.val = _; omega) (by show 256 * t + 128 + 1 * l.val = _; omega)).symm
    rcases List.mem_cons.1 hp with rfl | hp
    · intro x
      obtain ⟨r, l, rfl⟩ : ∃ (r : Fin 256) (l : Fin 128), x = ix2 r l := ⟨x 0, x 1, eq_ix2 x⟩
      dsimp only
      rw [shapeCast_self]
      show (dqLo (dqBytes arg2 harg2 x0 t hn) (ix2 r l) * dqScales arg3 harg3 x1 t hn (ix2 r l) : EReal) = _
      rw [dqLo_apply, dqBytes_apply, dqScales_apply]
      refine (wdeint_eq x0 x1 _ r l t 0 hn (by omega) (by show 0 + 1 * r.val = _; omega) (by show 256 * t + 1 * l.val = _; omega)).symm
    · exact ih _ p hp

theorem dqList_cover (n : ℕ) (hn : n ≤ 32) (y : S256x8192.Idx) (hy : (y 1).val < 256 * n) :
    ∃ p ∈ dqList arg2 harg2 arg3 harg3 x0 x1 n hn, y ∈ p.1.set := by
  induction n with
  | zero => omega
  | succ t ih =>
    have h0 : (y 0).val < 256 := (y 0).isLt
    by_cases h1 : (y 1).val < 256 * t
    · obtain ⟨p, hp, hm⟩ := ih (Nat.le_of_succ_le hn) h1
      exact ⟨p, List.mem_cons_of_mem _ (List.mem_cons_of_mem _ hp), hm⟩
    · by_cases h2 : (y 1).val < 256 * t + 128
      · exact ⟨_, List.mem_cons_of_mem _ List.mem_cons_self, (Rect.unit (s := S256x8192) ![0, 256 * t] S256x128.size (col_inb (by omega))).mem_set.2 (Fin.forall_fin_two.2
          ⟨⟨(y 0).val, h0, by show (y 0).val = 0 + 1 * (y 0).val; omega⟩,
            ⟨(y 1).val - 256 * t, by show _ < 128; omega, by show (y 1).val = 256 * t + 1 * _; omega⟩⟩)⟩
      · exact ⟨_, List.mem_cons_self, (Rect.unit (s := S256x8192) ![0, 256 * t + 128] S256x128.size (col_inb (by omega))).mem_set.2 (Fin.forall_fin_two.2
          ⟨⟨(y 0).val, h0, by show (y 0).val = 0 + 1 * (y 0).val; omega⟩,
            ⟨(y 1).val - (256 * t + 128), by show _ < 128; omega, by show (y 1).val = 256 * t + 128 + 1 * _; omega⟩⟩)⟩

/-- What the stores leave in the scratch block, through any view of it. -/
theorem dq_read (v : View sig .tc .vmem S256x8192 .bf16) (f : v.ty.Contents (Elt Ideal)) :
    v.read (Elt Ideal) (v.writes (Elt Ideal) f (dqList arg2 harg2 arg3 harg3 x0 x1 32 le_rfl)) = wdeint x0 x1 :=
  funext fun y => View.read_writes_apply_of_pieces v f (wdeint x0 x1) _ (dqList_val arg2 harg2 arg3 harg3 x0 x1 32 le_rfl) y
    (dqList_cover arg2 harg2 arg3 harg3 x0 x1 32 le_rfl y (y 1).isLt)

end Cert.Proof
end
-- ==== Proof.Cases.lean ====
module
public import proofs.«01_k».proof.Proof.IdealFrame
public import proofs.«01_k».proof.Proof.Deint
public import proofs.«01_k».proof.Proof.Sweep
public import proofs.«01_k».proof.Proof.Last
public import proofs.«01_k».proof.Proof.Dequant
@[expose] public section
set_option maxRecDepth 16384

/-! What one grid point leaves in each buffer, as plain arithmetic on what it found. There are three kinds of point: the
    first, the last, and those between. -/

noncomputable section
namespace Cert.Proof
open Cert.KernelIdeal Cert.KernelIdeal.Gen Idealize.ShloMosaic Idealize.ShloMosaic.TcCoe Idealize.ShloMosaic.Tactic Idealize.SL.Sem

/-- Two lists of pieces that cover a shape leave the same contents whatever was there before. -/
theorem read_cover {sig : RefSig} {κ κ' : Kind} {sp sp' : Space} {s : Shape} {e : EltTy} (v : View sig κ sp s e) (f : v.ty.Contents (Elt Ideal))
    (v' : View sig κ' sp' s e) (f' : v'.ty.Contents (Elt Ideal)) (L : List (View.Piece (Elt Ideal) s e)) (h : ∀ y, ∃ p ∈ L, y ∈ p.1.set)
    (y : s.Idx) (w : Elt Ideal e) (hw : v'.read (Elt Ideal) (v'.writes (Elt Ideal) f' L) y = w) :
    v.read (Elt Ideal) (v.writes (Elt Ideal) f L) y = w :=
  (congrFun (View.read_writes_of_cover v f v' f' L h) y).trans hw

/-- One store over the whole shape, read back. -/
theorem read_one {sig : RefSig} {κ : Kind} {sp : Space} {s : Shape} {e : EltTy} (v : View sig κ sp s e) (f : v.ty.Contents (Elt Ideal))
    (r : Rect s) (w : r.shape.Idx → Elt Ideal e) (y : s.Idx) (x : r.shape.Idx) (h : r.emb x = y) :
    v.read (Elt Ideal) (v.writes (Elt Ideal) f [⟨r, w⟩]) y = w x := by
  rw [← h, View.read_writes_cons_emb]

/-- The lanes of the low half. -/
theorem deint_mask (x : S128x128.Idx) : k0_pay190 x = 1#1 ↔ (x 1).val < 64 := by
  obtain ⟨r, l, rfl⟩ : ∃ (r : Fin 128) (l : Fin 128), x = ix2 r l := ⟨x 0, x 1, eq_ix2 x⟩
  unfold k0_pay190
  pointwise
  show _ ↔ l.val < 64
  revert l
  decide +kernel

/-- The lanes the low and the high half gather from. -/
theorem deint_lanes (x : S128x128.Idx) : k0_pay201 k0_pay191 16#32 k0_pay192 k0_pay193 0#32 x = BitVec.ofNat 32 (lane (x 1).val) := by
  obtain ⟨r, l, rfl⟩ : ∃ (r : Fin 128) (l : Fin 128), x = ix2 r l := ⟨x 0, x 1, eq_ix2 x⟩
  unfold k0_pay201 k0_pay192 k0_pay193 k0_pay191
  pointwise
  show _ = BitVec.ofNat 32 (lane l.val)
  revert l
  decide +kernel

theorem deint_lanes' (x : S128x128.Idx) : k0_pay202 k0_pay191 16#32 k0_pay192 k0_pay193 0#32 x = BitVec.ofNat 32 (lane (x 1).val + 16) := by
  show IntOp.addi (k0_pay201 k0_pay191 16#32 k0_pay192 k0_pay193 0#32 x) 16#32 = _
  rw [deint_lanes, BitVec.ofNat_add]
  rfl

variable (c : Dev nD) (i : grid0.Coords) (arg2 : Memref sig .tc .vmem S256x4096 .i8) (harg2 : arg2.IsWhole) (arg3 : Memref sig .tc .vmem S256x256 .bf16) (harg3 : arg3.IsWhole) (arg4 : Memref sig .tc .vmem S2560x256 .f32) (harg4 : arg4.IsWhole) (arg5 : Memref sig .tc .vmem S2560x1 .i32) (harg5 : arg5.IsWhole) (arg6 : Memref sig .tc .vmem S2560x1 .f32) (harg6 : arg6.IsWhole) (arg7 : Memref sig .tc .vmem S2560x1 .f32) (harg7 : arg7.IsWhole) (arg8 : Memref sig .tc .vmem S2560x8192 .bf16) (harg8 : arg8.IsWhole) (arg9 : Memref sig .tc .vmem S256x8192 .bf16) (harg9 : arg9.IsWhole) (arg10 : Memref sig .tc .vmem S2560x128 .f32) (harg10 : arg10.IsWhole) (arg11 : Memref sig .tc .vmem S2560x128 .f32) (harg11 : arg11.IsWhole) (arg12 : Memref sig .tc .vmem S2560x128 .i32) (harg12 : arg12.IsWhole)
  (x0 : Vec Ideal S256x4096 .i8) (x1 : Vec Ideal S256x256 .bf16) (fh0 : HbBuf0 (F := Ideal) c hbM0_0)

/-- The activations in the kernel's order, as the first point's two steps leave them. -/
theorem xbuf_A (hc0 : cond0_0 i) (y : S2560x8192.Idx) :
    arg8.view.read (Elt Ideal) (arg8.view.writes (Elt Ideal) arg8.view.junk
      (pb_k0_t1 (F := Ideal) Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 hc0 k0_pay190 k0_pay191 (16#32) k0_pay192 k0_pay193 (0#32)
          (arg8.view.writes (Elt Ideal) arg8.view.junk [⟨Rect.whole S2560x8192, kernelRun0_A.sl.dma0 c fh0⟩])
          (Scf.trips k0_t1_loop.lb k0_t1_loop.ub k0_t1_loop.st) ++ [⟨Rect.whole S2560x8192, kernelRun0_A.sl.dma0 c fh0⟩])) y
      = deint ((Memref.whole main_v0).view.read (Elt Ideal) fh0) y := by
  rw [View.writes_append]
  refine (loop_t1 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 hc0 k0_pay190 k0_pay191 (16#32) k0_pay192 k0_pay193 (0#32) _ deint_mask deint_lanes deint_lanes' y).trans ?_
  refine congrArg (fun X => deint X y) (funext fun z => ?_)
  exact read_one arg8.view _ (Rect.whole S2560x8192) (kernelRun0_A.sl.dma0 c fh0) z z (Shape.idx_ext₂ (by show 0 + 1 * _ = _; omega) (by show 0 + 1 * _ = _; omega))

theorem soutA_0 (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 hc0 hc1 x0 x1 fh0 = deint ((Memref.whole main_v0).view.read (Elt Ideal) fh0) := by
  funext y
  refine read_cover _ _ arg8.view arg8.view.junk _ (scover0_A_0 c i arg2 harg2 arg3 harg3 arg4 harg4 arg5 harg5 arg6 harg6 arg7 harg7 arg8 harg8 arg9 harg9 arg10 harg10 arg11 harg11 arg12 harg12 hc0 hc1 x0 x1 fh0) y _ ?_
  unfold kernelRun0_A
  exact xbuf_A c i arg2 harg2 arg3 harg3 arg4 harg4 arg5 harg5 arg6 harg6 arg7 harg7 arg8 harg8 arg9 harg9 arg10 harg10 arg11 harg11 arg12 harg12 fh0 hc0 y

theorem outA_2 (hc0 : cond0_0 i) (hc1 : ¬cond0_1 i) (y) : out0_A_2 c i arg2 harg2 arg3 harg3 arg4 harg4 arg5 harg5 arg6 harg6 arg7 harg7 arg8 harg8 arg9 harg9 arg10 harg10 arg11 harg11 arg12 harg12 hc0 hc1 x0 x1 fh0 y
    = prodT (deint ((Memref.whole main_v0).view.read (Elt Ideal) fh0)) (wdeint x0 x1) (y 0) (y 1) := by
  refine read_cover _ _ arg4.view arg4.view.junk _ (cover0_A_2 c i arg2 harg2 arg3 harg3 arg4 harg4 arg5 harg5 arg6 harg6 arg7 harg7 arg8 harg8 arg9 harg9 arg10 harg10 arg11 harg11 arg12 harg12 hc0 hc1 x0 x1 fh0) y _ ?_
  unfold kernelRun0_A
  refine (loop4_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_A, dq_read]
  exact congrArg (fun X => prodT X (wdeint x0 x1) (y 0) (y 1)) (funext fun z => xbuf_A c i arg2 harg2 arg3 harg3 arg4 harg4 arg5 harg5 arg6 harg6 arg7 harg7 arg8 harg8 arg9 harg9 arg10 harg10 arg11 harg11 arg12 harg12 fh0 hc0 z)

/-- The three per-lane buffers as the first point starts them. -/
theorem start_10 (z) : arg10.view.read (Elt Ideal) (arg10.view.writes (Elt Ideal) arg10.view.junk (kernelRun0_A.sl.HS2_1 (F := Ideal))) z = (⊥ : EReal) := by
  refine (read_one arg10.view _ (Rect.unit ![0, 0] S2560x128.size inb_S2560x128_S2560x128_0_0) (k0_pay187 (F := Ideal)) z z
    (Shape.idx_ext₂ (by show 0 + 1 * _ = _; omega) (by show 0 + 1 * _ = _; omega))).trans ?_
  unfold k0_pay187
  rw [shapeCast_self]
  exact ofBits_ninf

theorem start_11 (z) : arg11.view.read (Elt Ideal) (arg11.view.writes (Elt Ideal) arg11.view.junk (kernelRun0_A.sl.HS3_1 (F := Ideal))) z = (⊥ : EReal) := by
  refine (read_one arg11.view _ (Rect.unit ![0, 0] S2560x128.size inb_S2560x128_S2560x128_0_0) (k0_pay188 (F := Ideal)) z z
    (Shape.idx_ext₂ (by show 0 + 1 * _ = _; omega) (by show 0 + 1 * _ = _; omega))).trans ?_
  unfold k0_pay188
  rw [shapeCast_self]
  exact ofBits_ninf

theorem start_12 (z) : arg12.view.read (Elt Ideal) (arg12.view.writes (Elt Ideal) arg12.view.junk (kernelRun0_A.sl.HS4_1 (F := Ideal))) z = 0#32 := by
  refine (read_one arg12.view _ (Rect.unit ![0, 0] S2560x128.size inb_S2560x128_S2560x128_0_0) k0_pay189 z z
    (Shape.idx_ext₂ (by show 0 + 1 * _ = _; omega) (by show 0 + 1 * _ = _; omega))).trans ?_
  unfold k0_pay189
  rw [shapeCast_self]
  rfl

theorem soutA_2 (hc0 : cond0_0 i) (hc1 : ¬cond0_1 i) : sout0_A_2 c i arg2 harg2 arg3 harg3 arg4 harg4 arg5 harg5 arg6 harg6 arg7 harg7 arg8 harg8 arg9 harg9 arg10 harg10 arg11 harg11 arg12 harg12 hc0 hc1 x0 x1 fh0 = stepM1 (prodT (deint ((Memref.whole main_v0).view.read (Elt Ideal) fh0)) (wdeint x0 x1)) (fun _ => (⊥ : EReal)) := by
  funext y
  refine read_cover _ _ arg10.view arg10.view.junk _ (scover0_A_2 c i arg2 harg2 arg3 harg3 arg4 harg4 arg5 harg5 arg6 harg6 arg7 harg7 arg8 harg8 arg9 harg9 arg10 harg10 arg11 harg11 arg12 harg12 hc0 hc1 x0 x1 fh0) y _ ?_
  unfold kernelRun0_A
  dsimp only
  rw [View.writes_append]
  refine (loop10_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_A, dq_read, show arg8.view.read (Elt Ideal) _ = deint ((Memref.whole main_v0).view.read (Elt Ideal) fh0) from funext fun z => xbuf_A c i arg2 harg2 arg3 harg3 arg4 harg4 arg5 harg5 arg6 harg6 arg7 harg7 arg8 harg8 arg9 harg9 arg10 harg10 arg11 harg11 arg12 harg12 fh0 hc0 z,
    show arg10.view.read (Elt Ideal) _ = (fun _ => (⊥ : EReal)) from funext fun z => start_10 arg10 z]

theorem soutA_3 (hc0 : cond0_0 i) (hc1 : ¬cond0_1 i) : sout0_A_3 c i arg2 harg2 arg3 harg3 arg4 harg4 arg5 harg5 arg6 harg6 arg7 harg7 arg8 harg8 arg9 harg9 arg10 harg10 arg11 harg11 arg12 harg12 hc0 hc1 x0 x1 fh0 = stepM2 (prodT (deint ((Memref.whole main_v0).view.read (Elt Ideal) fh0)) (wdeint x0 x1)) (fun _ => (⊥ : EReal)) (fun _ => (⊥ : EReal)) := by
  funext y
  refine read_cover _ _ arg11.view arg11.view.junk _ (scover0_A_3 c i arg2 harg2 arg3 harg3 arg4 harg4 arg5 harg5 arg6 harg6 arg7 harg7 arg8 harg8 arg9 harg9 arg10 harg10 arg11 harg11 arg12 harg12 hc0 hc1 x0 x1 fh0) y _ ?_
  unfold kernelRun0_A
  dsimp only
  rw [View.writes_append]
  refine (loop11_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_A, dq_read, show arg8.view.read (Elt Ideal) _ = deint ((Memref.whole main_v0).view.read (Elt Ideal) fh0) from funext fun z => xbuf_A c i arg2 harg2 arg3 harg3 arg4 harg4 arg5 harg5 arg6 harg6 arg7 harg7 arg8 harg8 arg9 harg9 arg10 harg10 arg11 harg11 arg12 harg12 fh0 hc0 z,
    show arg10.view.read (Elt Ideal) _ = (fun _ => (⊥ : EReal)) from funext fun z => start_10 arg10 z, show arg11.view.read (Elt Ideal) _ = (fun _ => (⊥ : EReal)) from funext fun z => start_11 arg11 z]

theorem soutA_4 (hc0 : cond0_0 i) (hc1 : ¬cond0_1 i) : sout0_A_4 c i arg2 harg2 arg3 harg3 arg4 harg4 arg5 harg5 arg6 harg6 arg7 harg7 arg8 harg8 arg9 harg9 arg10 harg10 arg11 harg11 arg12 harg12 hc0 hc1 x0 x1 fh0 = stepI1 (BitVec.ofNat 32 (i 0).val) (prodT (deint ((Memref.whole main_v0).view.read (Elt Ideal) fh0)) (wdeint x0 x1)) (fun _ => (⊥ : EReal)) (fun _ => 0#32) := by
  funext y
  refine read_cover _ _ arg12.view arg12.view.junk _ (scover0_A_4 c i arg2 harg2 arg3 harg3 arg4 harg4 arg5 harg5 arg6 harg6 arg7 harg7 arg8 harg8 arg9 harg9 arg10 harg10 arg11 harg11 arg12 harg12 hc0 hc1 x0 x1 fh0) y _ ?_
  unfold kernelRun0_A
  dsimp only
  rw [View.writes_append]
  refine (loop12_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_A, dq_read, show arg8.view.read (Elt Ideal) _ = deint ((Memref.whole main_v0).view.read (Elt Ideal) fh0) from funext fun z => xbuf_A c i arg2 harg2 arg3 harg3 arg4 harg4 arg5 harg5 arg6 harg6 arg7 harg7 arg8 harg8 arg9 harg9 arg10 harg10 arg11 harg11 arg12 harg12 fh0 hc0 z,
    show arg10.view.read (Elt Ideal) _ = (fun _ => (⊥ : EReal)) from funext fun z => start_10 arg10 z, show arg12.view.read (Elt Ideal) _ = (fun _ => 0#32) from funext fun z => start_12 arg12 z]

variable (xs0 : Vec Ideal S2560x8192 .bf16) (xs2 : Vec Ideal S2560x128 .f32) (xs3 : Vec Ideal S2560x128 .f32) (xs4 : Vec Ideal S2560x128 .i32)

theorem outB_2 (hc0 : ¬cond0_0 i) (hc1 : ¬cond0_1 i) (y) : out0_B_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 y = prodT xs0 (wdeint x0 x1) (y 0) (y 1) := by
  refine read_cover _ _ arg4.view arg4.view.junk _ (cover0_B_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_B
  refine (loop4_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_B, dq_read, harg8.read_unread]

theorem soutB_2 (hc0 : ¬cond0_0 i) (hc1 : ¬cond0_1 i) : sout0_B_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = stepM1 (prodT xs0 (wdeint x0 x1)) xs2 := by
  funext y
  refine read_cover _ _ arg10.view (harg10.unread xs2) _ (scover0_B_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_B
  dsimp only
  refine (loop10_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_B, dq_read, harg8.read_unread, harg10.read_unread]

theorem soutB_3 (hc0 : ¬cond0_0 i) (hc1 : ¬cond0_1 i) : sout0_B_3 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = stepM2 (prodT xs0 (wdeint x0 x1)) xs2 xs3 := by
  funext y
  refine read_cover _ _ arg11.view (harg11.unread xs3) _ (scover0_B_3 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_B
  dsimp only
  refine (loop11_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_B, dq_read, harg8.read_unread, harg10.read_unread, harg11.read_unread]

theorem soutB_4 (hc0 : ¬cond0_0 i) (hc1 : ¬cond0_1 i) : sout0_B_4 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = stepI1 (BitVec.ofNat 32 (i 0).val) (prodT xs0 (wdeint x0 x1)) xs2 xs4 := by
  funext y
  refine read_cover _ _ arg12.view (harg12.unread xs4) _ (scover0_B_4 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_B
  dsimp only
  refine (loop12_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_B, dq_read, harg8.read_unread, harg10.read_unread, harg12.read_unread]

theorem outC_2 (hc0 : ¬cond0_0 i) (hc1 : cond0_1 i) (y) : out0_C_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 y = prodT xs0 (wdeint x0 x1) (y 0) (y 1) := by
  refine read_cover _ _ arg4.view arg4.view.junk _ (cover0_C_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  refine (loop4_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_C, dq_read, harg8.read_unread]

theorem soutC_2 (hc0 : ¬cond0_0 i) (hc1 : cond0_1 i) : sout0_C_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = stepM1 (prodT xs0 (wdeint x0 x1)) xs2 := by
  funext y
  refine read_cover _ _ arg10.view (harg10.unread xs2) _ (scover0_C_2 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  dsimp only
  refine (loop10_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_C, dq_read, harg8.read_unread, harg10.read_unread]

theorem soutC_3 (hc0 : ¬cond0_0 i) (hc1 : cond0_1 i) : sout0_C_3 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = stepM2 (prodT xs0 (wdeint x0 x1)) xs2 xs3 := by
  funext y
  refine read_cover _ _ arg11.view (harg11.unread xs3) _ (scover0_C_3 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  dsimp only
  refine (loop11_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_C, dq_read, harg8.read_unread, harg10.read_unread, harg11.read_unread]

theorem soutC_4 (hc0 : ¬cond0_0 i) (hc1 : cond0_1 i) : sout0_C_4 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = stepI1 (BitVec.ofNat 32 (i 0).val) (prodT xs0 (wdeint x0 x1)) xs2 xs4 := by
  funext y
  refine read_cover _ _ arg12.view (harg12.unread xs4) _ (scover0_C_4 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  dsimp only
  refine (loop12_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ y).trans ?_
  rw [dq_C, dq_read, harg8.read_unread, harg10.read_unread, harg12.read_unread]

theorem outC_3 (hc0 : ¬cond0_0 i) (hc1 : cond0_1 i) : out0_C_3 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = tokRow (stepM1 (prodT xs0 (wdeint x0 x1)) xs2) (stepI1 (BitVec.ofNat 32 (i 0).val) (prodT xs0 (wdeint x0 x1)) xs2 xs4) := by
  funext y
  refine read_cover _ _ arg5.view arg5.view.junk _ (cover0_C_3 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  dsimp only
  refine (loop5_t3 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ y).trans ?_
  rw [show arg10.view.read (Elt Ideal) _ = (stepM1 (prodT xs0 (wdeint x0 x1)) xs2) from funext fun z => (loop10_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ z).trans (by rw [dq_C, dq_read, harg8.read_unread, harg10.read_unread]),
    show arg12.view.read (Elt Ideal) _ = (stepI1 (BitVec.ofNat 32 (i 0).val) (prodT xs0 (wdeint x0 x1)) xs2 xs4) from funext fun z => (loop12_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ z).trans (by rw [dq_C, dq_read, harg8.read_unread, harg10.read_unread, harg12.read_unread])]

theorem outC_4 (hc0 : ¬cond0_0 i) (hc1 : cond0_1 i) : out0_C_4 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = marginRow (stepM1 (prodT xs0 (wdeint x0 x1)) xs2) (stepM2 (prodT xs0 (wdeint x0 x1)) xs2 xs3) (stepI1 (BitVec.ofNat 32 (i 0).val) (prodT xs0 (wdeint x0 x1)) xs2 xs4) := by
  funext y
  refine read_cover _ _ arg6.view arg6.view.junk _ (cover0_C_4 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  dsimp only
  refine (loop6_t3 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ y).trans ?_
  rw [show arg10.view.read (Elt Ideal) _ = (stepM1 (prodT xs0 (wdeint x0 x1)) xs2) from funext fun z => (loop10_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ z).trans (by rw [dq_C, dq_read, harg8.read_unread, harg10.read_unread]),
    show arg11.view.read (Elt Ideal) _ = (stepM2 (prodT xs0 (wdeint x0 x1)) xs2 xs3) from funext fun z => (loop11_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ z).trans (by rw [dq_C, dq_read, harg8.read_unread, harg10.read_unread, harg11.read_unread]),
    show arg12.view.read (Elt Ideal) _ = (stepI1 (BitVec.ofNat 32 (i 0).val) (prodT xs0 (wdeint x0 x1)) xs2 xs4) from funext fun z => (loop12_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ z).trans (by rw [dq_C, dq_read, harg8.read_unread, harg10.read_unread, harg12.read_unread])]

theorem outC_5 (hc0 : ¬cond0_0 i) (hc1 : cond0_1 i) : out0_C_5 c i arg2 harg2 arg3 harg3 arg4 harg4 arg5 harg5 arg6 harg6 arg7 harg7 arg8 harg8 arg9 harg9 arg10 harg10 arg11 harg11 arg12 harg12 hc0 hc1 x0 x1 xs0 xs2 xs3 xs4 fh0 = topRow (stepM1 (prodT xs0 (wdeint x0 x1)) xs2) := by
  funext y
  refine read_cover _ _ arg7.view arg7.view.junk _ (cover0_C_5 c i arg2 harg2 arg3 harg3 arg4 harg4 arg5 harg5 arg6 harg6 arg7 harg7 arg8 harg8 arg9 harg9 arg10 harg10 arg11 harg11 arg12 harg12 hc0 hc1 x0 x1 xs0 xs2 xs3 xs4 fh0) y _ ?_
  unfold kernelRun0_C
  dsimp only
  refine (loop7_t3 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ y).trans ?_
  rw [show arg10.view.read (Elt Ideal) _ = (stepM1 (prodT xs0 (wdeint x0 x1)) xs2) from funext fun z => (loop10_t2 Variants.none c none i (Memref.whole main_v0) (Memref.isWhole_whole _) arg2 harg2 arg3 harg3 arg4 harg4 arg5 harg5 arg6 harg6 arg7 harg7 arg8 harg8 arg9 harg9 arg10 harg10 arg11 harg11 arg12 harg12 cc0_scratch5 _ _ _ _ _ _ _ z).trans (by rw [dq_C, dq_read, harg8.read_unread, harg10.read_unread])]

end Cert.Proof
end
-- ==== Proof.Points.lean ====
module
public import proofs.«01_k».proof.Proof.Cases
public import proofs.«01_k».proof.Proof.Math
public import Idealize.ShloMosaic.Lib.Pipeline.ValueKit.Point
@[expose] public section
set_option maxRecDepth 16384

/-! The whole sweep: what every grid point finds and leaves, in terms of the row of values the whole weight matrix gives
    for each row of activations. -/

noncomputable section
namespace Cert.Proof
open Cert.KernelIdeal Cert.KernelIdeal.Gen Idealize.ShloMosaic Idealize.ShloMosaic.TcCoe Idealize.ShloMosaic.Tactic Idealize.SL.Sem

/-- The expanded weight matrix in the kernel's column order. -/
def wfull (Wp : S32000x4096.Idx → BitVec 8) (Sc : S32000x256.Idx → EReal) (v : Fin 32000) (k : Fin 8192) : EReal :=
  let b : BitVec 8 := Wp (ix2 (n0 := 32000) (n1 := 4096) v ⟨128 * (k.val / 256) + k.val % 128, by omega⟩)
  (((((if k.val % 256 < 128 then b &&& 15#8 else b >>> 4 : BitVec 8).toInt : ℝ) : EReal) - eight)
    * Sc (ix2 (n0 := 32000) (n1 := 256) v ⟨8 * (k.val / 256) + k.val % 128 / 16, by omega⟩))

/-- A row's values, indexed by the natural numbers (zero past the last). -/
def logit (X : S2560x8192.Idx → EReal) (Wp : S32000x4096.Idx → BitVec 8) (Sc : S32000x256.Idx → EReal) (r : Fin 2560) (n : ℕ) : EReal :=
  if h : n < 32000 then ∑ k : Fin 8192, deint X (ix2 r k) * wfull Wp Sc ⟨n, h⟩ k else 0

/-- One block's three updates are two steps of the running record. -/
theorem inv_block (P : Fin 2560 → Fin 256 → EReal) (L : ℕ → EReal) (m1 m2 : S2560x128.Idx → EReal) (i1 : S2560x128.Idx → BitVec 32)
    (y : S2560x128.Idx) (n : ℕ) (hP : ∀ j (h : j < 256), P (y 0) ⟨j, h⟩ = L (256 * n + j)) (i : ℕ)
    (hi : i1 y = BitVec.ofNat 32 i) (h : Inv (fun b => L (128 * b + (y 1).val)) (2 * n) (m1 y) (m2 y) i) :
    ∃ i', stepI1 (BitVec.ofNat 32 n) P m1 i1 y = BitVec.ofNat 32 i' ∧
      Inv (fun b => L (128 * b + (y 1).val)) (2 * (n + 1)) (stepM1 P m1 y) (stepM2 P m1 m2 y) i' := by
  have h1 : P (y 0) ⟨(y 1).val, lt_trans (y 1).isLt (by decide)⟩ = L (128 * (2 * n) + (y 1).val) := by
    exact (hP _ _).trans (congrArg L (by omega))
  have h2 : P (y 0) ⟨128 + (y 1).val, Nat.add_lt_add_left (y 1).isLt 128⟩ = L (128 * (2 * n + 1) + (y 1).val) := by
    exact (hP _ _).trans (congrArg L (by omega))
  refine ⟨if max (m1 y) (L (128 * (2 * n) + (y 1).val)) < L (128 * (2 * n + 1) + (y 1).val) then 2 * n + 1
    else if m1 y < L (128 * (2 * n) + (y 1).val) then 2 * n else i, ?_, ?_⟩
  rotate_left
  · unfold stepM1 stepM2
    rw [h1, h2]
    exact h.step.step
  · unfold stepI1
    rw [h1, h2, hi]
    have e0 : BitVec.ofNat 32 n * 2#32 + 0#32 = BitVec.ofNat 32 (2 * n) := by
      rw [BitVec.add_zero, ← BitVec.ofNat_mul, Nat.mul_comm]
    have e1 : BitVec.ofNat 32 n * 2#32 + 1#32 = BitVec.ofNat 32 (2 * n + 1) := by
      rw [← BitVec.ofNat_mul, ← BitVec.ofNat_add, Nat.mul_comm]
    rw [e0, e1]
    split_ifs <;> rfl

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val] :=
  (by decide +kernel : ∀ t : Fin grid0.N, win0_2.index t = ![0, t.val])
theorem coord : ∀ t : Fin cfg0.N, (grid0.coords t 0).val = t.val :=
  (by decide +kernel : ∀ t : Fin grid0.N, (grid0.coords t 0).val = t.val)

theorem t_lt (t : Fin cfg0.N) : t.val < 125 := lt_of_lt_of_eq t.isLt (show cfg0.N = 125 from N_0)

theorem iblk0_apply (t : Fin cfg0.N) (r : Fin 256) (k : Fin 4096) :
    iblk m c 0 t (ix2 r k) = V m c main_arg1 (ix2 (n0 := 32000) (n1 := 4096) ⟨256 * t.val + r.val, by have := t_lt t; omega⟩ k) := by
  blk_simp [iblk]
  refine congrArg (V m c main_arg1) ?_
  blk_ext [index0]

theorem iblk1_apply (t : Fin cfg0.N) (r : Fin 256) (k : Fin 256) :
    iblk m c 1 t (ix2 r k) = V m c main_arg2 (ix2 (n0 := 32000) (n1 := 256) ⟨256 * t.val + r.val, by have := t_lt t; omega⟩ k) := by
  blk_simp [iblk]
  refine congrArg (V m c main_arg2) ?_
  blk_ext [index1]

/-- The row of values of the arrays the run starts from. -/
def logitV (r : Fin 2560) (n : ℕ) : EReal := logit (V m c main_v0) (V m c main_arg1) (V m c main_arg2) r n

/-- A point's product is its stretch of that row. -/
theorem prod_point (t : Fin cfg0.N) (r : Fin 2560) (j : ℕ) (h : j < 256) :
    prodT (deint (V m c main_v0)) (wdeint (iblk m c 0 t) (iblk m c 1 t)) r ⟨j, h⟩ = logitV m c r (256 * t.val + j) := by
  have ht := t_lt t
  unfold logitV logit prodT
  rw [dif_pos (by omega)]
  refine Finset.sum_congr rfl fun k _ => congrArg ((deint (V m c main_v0) (ix2 r k) : EReal) * ·) ?_
  exact congrArg₂ (fun (b : BitVec 8) (w : EReal) => ((((if k.val % 256 < 128 then b &&& 15#8 else b >>> 4 : BitVec 8).toInt : ℝ) : EReal) - eight) * w)
    (iblk0_apply m c t ⟨j, h⟩ ⟨128 * (k.val / 256) + k.val % 128, by omega⟩) (iblk1_apply m c t ⟨j, h⟩ ⟨8 * (k.val / 256) + k.val % 128 / 16, by omega⟩)

/-- What point `t` leaves: its stretch of the values, the activations in the kernel's order, and the running record of every lane. -/
structure After (t : Fin cfg0.N) : Prop where
  block : ∀ (r : Fin 2560) (j : Fin 256), (outsAt0 m c t.val t.isLt).1 (ix2 r j) = logitV m c r (256 * t.val + j.val)
  acts : (outsAt0 m c t.val t.isLt).2.2.2.2.1 = deint (V m c main_v0)
  lanes : ∀ y : S2560x128.Idx, ∃ i, (outsAt0 m c t.val t.isLt).2.2.2.2.2.2.2 y = BitVec.ofNat 32 i ∧
    Inv (fun b => logitV m c (y 0) (128 * b + (y 1).val)) (2 * (t.val + 1)) ((outsAt0 m c t.val t.isLt).2.2.2.2.2.1 y)
      ((outsAt0 m c t.val t.isLt).2.2.2.2.2.2.1 y) i

/-- The first point. -/
theorem after_A (t : Fin cfg0.N) (h0 : t.val % 125 = 0) (h1 : ¬t.val % 125 = 124) : After m c t := by
  have ht := t_lt t
  have hv : t.val = 0 := by omega
  have e := outsAt0_A m c t h0 h1
  constructor
  · intro r j
    rw [e]
    exact (outA_2 ..).trans (prod_point m c t r j.val j.isLt)
  · rw [e]
    exact soutA_0 ..
  · intro y
    rw [e]
    dsimp only
    rw [soutA_2, soutA_3, soutA_4, coord]
    refine inv_block _ _ _ _ _ y t.val (fun j h => prod_point m c t (y 0) j h) 0 rfl ?_
    rw [hv]
    exact Inv.zero _

/-- A point between. -/
theorem after_B (t : Fin cfg0.N) (h0 : ¬t.val % 125 = 0) (h1 : ¬t.val % 125 = 124)
    (hp : After m c ⟨t.val - 1, Nat.lt_of_le_of_lt (Nat.sub_le _ _) t.isLt⟩) : After m c t := by
  have ht := t_lt t
  have hv : t.val - 1 + 1 = t.val := by omega
  have e := outsAt0_B m c t h0 h1
  have ea := hp.acts
  dsimp only at ea
  constructor
  · intro r j
    rw [e, ea]
    exact (outB_2 ..).trans (prod_point m c t r j.val j.isLt)
  · rw [e]
    exact ea
  · intro y
    obtain ⟨i, hi, hinv⟩ := hp.lanes y
    dsimp only at hi hinv
    rw [hv] at hinv
    rw [e]
    dsimp only
    rw [soutB_2, soutB_3, soutB_4, coord, ea]
    exact inv_block _ _ _ _ _ y t.val (fun j h => prod_point m c t (y 0) j h) i hi hinv

/-- The last point. -/
theorem after_C (t : Fin cfg0.N) (h0 : ¬t.val % 125 = 0) (h1 : t.val % 125 = 124)
    (hp : After m c ⟨t.val - 1, Nat.lt_of_le_of_lt (Nat.sub_le _ _) t.isLt⟩) : After m c t := by
  have ht := t_lt t
  have hv : t.val - 1 + 1 = t.val := by omega
  have e := outsAt0_C m c t h0 h1
  have ea := hp.acts
  dsimp only at ea
  constructor
  · intro r j
    rw [e, ea]
    exact (outC_2 ..).trans (prod_point m c t r j.val j.isLt)
  · rw [e]
    exact ea
  · intro y
    obtain ⟨i, hi, hinv⟩ := hp.lanes y
    dsimp only at hi hinv
    rw [hv] at hinv
    rw [e]
    dsimp only
    rw [soutC_2, soutC_3, soutC_4, coord, ea]
    exact inv_block _ _ _ _ _ y t.val (fun j h => prod_point m c t (y 0) j h) i hi hinv

/-- Every point. -/
theorem after_all (n : ℕ) (hn : n < cfg0.N) : After m c ⟨n, hn⟩ := by
  induction n with
  | zero => exact after_A m c ⟨0, hn⟩ rfl (by simp)
  | succ n ih =>
    have ht := t_lt ⟨n + 1, hn⟩
    have h0 : ¬(n + 1) % 125 = 0 := by dsimp only at ht; omega
    by_cases h1 : (n + 1) % 125 = 124
    · exact after_C m c ⟨n + 1, hn⟩ h0 h1 (ih (Nat.lt_of_succ_lt hn))
    · exact after_B m c ⟨n + 1, hn⟩ h0 h1 (ih (Nat.lt_of_succ_lt hn))

/-- The three rows the last point writes, in terms of the lanes it leaves. -/
theorem last_rows (t : Fin cfg0.N) (h0 : ¬t.val % 125 = 0) (h1 : t.val % 125 = 124) :
    (outsAt0 m c t.val t.isLt).2.1 = tokRow (outsAt0 m c t.val t.isLt).2.2.2.2.2.1 (outsAt0 m c t.val t.isLt).2.2.2.2.2.2.2
    ∧ (outsAt0 m c t.val t.isLt).2.2.1 = marginRow (outsAt0 m c t.val t.isLt).2.2.2.2.2.1 (outsAt0 m c t.val t.isLt).2.2.2.2.2.2.1 (outsAt0 m c t.val t.isLt).2.2.2.2.2.2.2
    ∧ (outsAt0 m c t.val t.isLt).2.2.2.1 = topRow (outsAt0 m c t.val t.isLt).2.2.2.2.2.1 := by
  have e := outsAt0_C m c t h0 h1
  rw [e]
  dsimp only
  rw [soutC_2, soutC_3, soutC_4]
  exact ⟨outC_3 .., outC_4 .., outC_5 ..⟩

/-- What the last point writes for a row: the column of the greatest value, the difference of the two greatest, and the greatest. -/
theorem last_top2 (t : Fin cfg0.N) (h0 : ¬t.val % 125 = 0) (h1 : t.val % 125 = 124) (r : Fin 2560) :
    ∃ (tok : ℕ) (sec : EReal), (outsAt0 m c t.val t.isLt).2.1 (ix2 r 0) = BitVec.ofNat 32 tok
      ∧ (outsAt0 m c t.val t.isLt).2.2.1 (ix2 r 0) = (outsAt0 m c t.val t.isLt).2.2.2.1 (ix2 r 0) - sec
      ∧ IsTop2 32000 (logitV m c r) tok ((outsAt0 m c t.val t.isLt).2.2.2.1 (ix2 r 0)) sec := by
  have ht := t_lt t
  have hv : 2 * (t.val + 1) = 250 := by omega
  have hl := (after_all m c t.val t.isLt).lanes
  dsimp only at hl
  rw [hv] at hl
  obtain ⟨e3, e4, e5⟩ := last_rows m c t h0 h1
  generalize (outsAt0 m c t.val t.isLt).2.2.2.2.2.1 = m1 at *
  generalize (outsAt0 m c t.val t.isLt).2.2.2.2.2.2.1 = m2 at *
  generalize (outsAt0 m c t.val t.isLt).2.2.2.2.2.2.2 = i1 at *
  rw [e3, e4, e5]
  obtain ⟨tok, h, h'⟩ := isTop2_of_lanes (logitV m c r) (fun l => m1 (ix2 r l)) (fun l => m2 (ix2 r l)) (fun l => i1 (ix2 r l))
    (fun l => hl (ix2 r l)) _ _ _ rfl rfl rfl
  exact ⟨tok, _, h, rfl, h'⟩

end Cert.Proof
end
-- ==== Proof.IdealValue.lean ====
/- The value module of `KernelIdeal`, copied from the generated one over the runs of `IdealRunA`, `IdealRunB` and `IdealRunC`. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 125 = 0) (h1 : ¬t.val % 125 = 124) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0)) := by
  simp only [flushed2, outsAt0_A m c t h0 h1]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 125 = 0) (h1 : ¬t.val % 125 = 124) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed2, outsAt0_B m c t h0 h1]

/-- … so at a point where case C runs, what its write-back would write is that case's NAMED TERM for the window (`Gen.out0_C_2`: the pieces
    its run found, read back) at the point's memrefs and input blocks, and for an output the case reads back what the point before left (`Gen.outsAt0` at `t - 1`) — by the frame's rewriting lemma for the case. -/
theorem flushed2_C (c : Dev nD) (t : Fin cfg0.N) (h0 : ¬t.val % 125 = 0) (h1 : t.val % 125 = 124) :
    (dats m 0 c).flushed 2 t = (cfg0.win 2).cut (grid0.coords t) (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed2, outsAt0_C m c t h0 h1]

/-- The index map sends distinct grid points to distinct block indices (decided over the 125 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S2560x32000.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 125 = 0) (h1 : ¬t.val % 125 = 124) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 125 = 0) (h1 : ¬t.val % 125 = 124) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed3, outsAt0_B m c t h0 h1]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : ¬t.val % 125 = 0) (h1 : t.val % 125 = 124) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed3, outsAt0_C m c t h0 h1]

-- no `blocks3`: window 3's index map revisits a block index, or its points could not be enumerated here;
-- the final array is still the frame's `arrAt`, to read with Lib/Pipeline/Value.lean's lemmas by hand

/-- An index that no flushing point's block covers keeps output window 3's array contents at region entry. -/
theorem entry3 (c : Dev nD) (i : S2560x1.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 2), read through the window's block. -/
theorem flushed4 (c : Dev nD) (t : Fin cfg0.N) :
    (dats m 0 c).flushed 4 t = (cfg0.win 4).cut (grid0.coords t) ((outsAt0 m c t.val t.isLt).2.2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 125 = 0) (h1 : ¬t.val % 125 = 124) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 125 = 0) (h1 : ¬t.val % 125 = 124) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed4, outsAt0_B m c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 125 = 0) (h1 : t.val % 125 = 124) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed4, outsAt0_C m c t h0 h1]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S2560x1.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 3), read through the window's block. -/
theorem flushed5 (c : Dev nD) (t : Fin cfg0.N) :
    (dats m 0 c).flushed 5 t = (cfg0.win 5).cut (grid0.coords t) ((outsAt0 m c t.val t.isLt).2.2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 125 = 0) (h1 : ¬t.val % 125 = 124) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (V m c main_v0)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 125 = 0) (h1 : ¬t.val % 125 = 124) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 125 = 0) (h1 : t.val % 125 = 124) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v0)) := by
  simp only [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S2560x1.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_3) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_v1_2) = (dats m 0 c).arrAt 4 cfg0.N
      ∧ r.2.mem ((c : Thread nD τ).loc main_v1_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post2 m r h c,
      post3 m r h c,
      post4 m r h c,
      post5 m r h c,
      kept_main_arg0 m r h c,
      kept_main_arg1 m r h c,
      kept_main_arg2 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2560x8192 .bf16) : Vec F S2560x8192 .bf16 :=
  if h0 : n % 125 = 0 then
    if h1 : n % 125 = 124 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (V m c main_v0)
  else
    if h1 : n % 125 = 124 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2 (V m c main_v0)
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2 (V m c main_v0)

/-- WHAT CARRIED SCRATCH 0 HOLDS after point `t`: the fold of its run up to `t`, from the reset at the run's first point
    `125·(t / 125)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (125 * (t.val / 125)) (t.val % 125)
      (by have h1 := t.isLt; have h2 := Nat.div_add_mod t.val 125; omega) :=
  Pipeline.eq_accAt_of_mod (fun n h => (outsAt0 m c n h).2.2.2.2.1) 125 (fun n h => scAt0_0 m c n h (VS0_0.read (Elt F) VS0_0.junk)) (scAt0_0 m c)
    (fun n h hn => by
      have hN := lt_of_lt_of_eq h (show cfg0.N = 125 from N_0)
      by_cases h0 : n % 125 = 0 <;> by_cases h1 : n % 125 = 124
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 125 from N_0)
      by_cases h0 : (n + 1) % 125 = 0 <;> by_cases h1 : (n + 1) % 125 = 124
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 125 from N_0)
  have hd : n / 125 = 0 := Nat.div_eq_of_lt hN
  have hm : n % 125 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S2560x128 .f32) : Vec F S2560x128 .f32 :=
  if h0 : n % 125 = 0 then
    if h1 : n % 125 = 124 then
      acc
    else
      sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (V m c main_v0)
  else
    if h1 : n % 125 = 124 then
      sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2 (V m c main_v0)
    else
      sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2 (V m c main_v0)

/-- WHAT CARRIED SCRATCH 2 HOLDS after point `t`: the fold of its run up to `t`, from the reset at the run's first point
    `125·(t / 125)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2.2.1 = Pipeline.accAt (fun n h => scAt0_2 m c n h (VS0_2.read (Elt F) VS0_2.junk)) (scAt0_2 m c) (125 * (t.val / 125)) (t.val % 125)
      (by have h1 := t.isLt; have h2 := Nat.div_add_mod t.val 125; omega) :=
  Pipeline.eq_accAt_of_mod (fun n h => (outsAt0 m c n h).2.2.2.2.2.1) 125 (fun n h => scAt0_2 m c n h (VS0_2.read (Elt F) VS0_2.junk)) (scAt0_2 m c)
    (fun n h hn => by
      have hN := lt_of_lt_of_eq h (show cfg0.N = 125 from N_0)
      by_cases h0 : n % 125 = 0 <;> by_cases h1 : n % 125 = 124
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 125 from N_0)
      by_cases h0 : (n + 1) % 125 = 0 <;> by_cases h1 : (n + 1) % 125 = 124
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 125 from N_0)
  have hd : n / 125 = 0 := Nat.div_eq_of_lt hN
  have hm : n % 125 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S2560x128 .f32) : Vec F S2560x128 .f32 :=
  if h0 : n % 125 = 0 then
    if h1 : n % 125 = 124 then
      acc
    else
      sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (V m c main_v0)
  else
    if h1 : n % 125 = 124 then
      sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc (outsAt0 m c ((⟨n, hb⟩ : Fin cfg0.N).val - 1) (Nat.lt_of_le_of_lt (Nat.sub_le _ _) (⟨n, hb⟩ : Fin cfg0.N).isLt)).2.2.2.2.2.2.2 (V m c main_v0)
    else
      sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc (outsAt0 m c ((⟨n, hb⟩ : Fin cfg0.N).val - 1) (Nat.lt_of_le_of_lt (Nat.sub_le _ _) (⟨n, hb⟩ : Fin cfg0.N).isLt)).2.2.2.2.2.2.2 (V m c main_v0)

/-- WHAT CARRIED SCRATCH 3 HOLDS after point `t`: the fold of its run up to `t`, from the reset at the run's first point
    `125·(t / 125)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.2.2.2.1 = Pipeline.accAt (fun n h => scAt0_3 m c n h (VS0_3.read (Elt F) VS0_3.junk)) (scAt0_3 m c) (125 * (t.val / 125)) (t.val % 125)
      (by have h1 := t.isLt; have h2 := Nat.div_add_mod t.val 125; omega) :=
  Pipeline.eq_accAt_of_mod (fun n h => (outsAt0 m c n h).2.2.2.2.2.2.1) 125 (fun n h => scAt0_3 m c n h (VS0_3.read (Elt F) VS0_3.junk)) (scAt0_3 m c)
    (fun n h hn => by
      have hN := lt_of_lt_of_eq h (show cfg0.N = 125 from N_0)
      by_cases h0 : n % 125 = 0 <;> by_cases h1 : n % 125 = 124
      all_goals first | (exfalso; omega) | (rw [outsAt0_A m c ⟨n, h⟩ h0 h1]; dsimp only; unfold scAt0_3; rw [dif_pos h0, dif_neg h1] <;> try rfl) | (rw [outsAt0_B m c ⟨n, h⟩ h0 h1]; dsimp only; unfold scAt0_3; rw [dif_neg h0, dif_neg h1] <;> try rfl) | (rw [outsAt0_C m c ⟨n, h⟩ h0 h1]; dsimp only; unfold scAt0_3; rw [dif_neg h0, dif_pos h1] <;> try rfl))
    (fun n h hn => by
      have hN := lt_of_lt_of_eq h (show cfg0.N = 125 from N_0)
      by_cases h0 : (n + 1) % 125 = 0 <;> by_cases h1 : (n + 1) % 125 = 124
      all_goals first | (exfalso; omega) | (rw [outsAt0_A m c ⟨n + 1, h⟩ h0 h1]; dsimp only; unfold scAt0_3; rw [dif_pos h0, dif_neg h1] <;> try rfl) | (rw [outsAt0_B m c ⟨n + 1, h⟩ h0 h1]; dsimp only; unfold scAt0_3; rw [dif_neg h0, dif_neg h1] <;> try rfl) | (rw [outsAt0_C m c ⟨n + 1, h⟩ h0 h1]; dsimp only; unfold scAt0_3; rw [dif_neg h0, dif_pos h1] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.2.2.2.1 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 125 from N_0)
  have hd : n / 125 = 0 := Nat.div_eq_of_lt hN
  have hm : n % 125 = n := Nat.mod_eq_of_lt hN
  simpa only [hd, hm, Nat.mul_zero] using e

/-! ## Carried scratch 4: what each point leaves in it, and its fold -/

/-- What point `n` leaves in carried scratch 4, over what the point before left in it (`acc`): the case the conditions'
    closed forms select at `n`, the frame's own term for it (`Gen.sout0_κ_4`; anything else the case takes of the point
    before, another carried scratch or an output it reads back, stays `Gen.outsAt0`'s at `n - 1`); a case at the first point
    stores the scratch whole without reading what it held, and `acc` does not enter there (nor where no point meets the
    conditions: `acc`, never read). -/
def scAt0_4 (c : Dev nD) (n : ℕ) (hb : n < cfg0.N) (acc : Vec F S2560x128 .i32) : Vec F S2560x128 .i32 :=
  if h0 : n % 125 = 0 then
    if h1 : n % 125 = 124 then
      acc
    else
      sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (V m c main_v0)
  else
    if h1 : n % 125 = 124 then
      sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 acc (V m c main_v0)
    else
      sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 acc (V m c main_v0)

/-- WHAT CARRIED SCRATCH 4 HOLDS after point `t`: the fold of its run up to `t`, from the reset at the run's first point
    `125·(t / 125)` (Lib/Pipeline/Value.lean `Pipeline.eq_accAt_of_mod`, by the frame's `outsAt0_κ`; without enumerating the points). -/
theorem soutsAt0_4_eq (c : Dev nD) (t : Fin cfg0.N) :
    (outsAt0 m c t.val t.isLt).2.2.2.2.2.2.2 = Pipeline.accAt (fun n h => scAt0_4 m c n h (VS0_4.read (Elt F) VS0_4.junk)) (scAt0_4 m c) (125 * (t.val / 125)) (t.val % 125)
      (by have h1 := t.isLt; have h2 := Nat.div_add_mod t.val 125; omega) :=
  Pipeline.eq_accAt_of_mod (fun n h => (outsAt0 m c n h).2.2.2.2.2.2.2) 125 (fun n h => scAt0_4 m c n h (VS0_4.read (Elt F) VS0_4.junk)) (scAt0_4 m c)
    (fun n h hn => by
      have hN := lt_of_lt_of_eq h (show cfg0.N = 125 from N_0)
      by_cases h0 : n % 125 = 0 <;> by_cases h1 : n % 125 = 124
      all_goals first | (exfalso; omega) | (rw [outsAt0_A m c ⟨n, h⟩ h0 h1]; dsimp only; unfold scAt0_4; rw [dif_pos h0, dif_neg h1] <;> try rfl) | (rw [outsAt0_B m c ⟨n, h⟩ h0 h1]; dsimp only; unfold scAt0_4; rw [dif_neg h0, dif_neg h1] <;> try rfl) | (rw [outsAt0_C m c ⟨n, h⟩ h0 h1]; dsimp only; unfold scAt0_4; rw [dif_neg h0, dif_pos h1] <;> try rfl))
    (fun n h hn => by
      have hN := lt_of_lt_of_eq h (show cfg0.N = 125 from N_0)
      by_cases h0 : (n + 1) % 125 = 0 <;> by_cases h1 : (n + 1) % 125 = 124
      all_goals first | (exfalso; omega) | (rw [outsAt0_A m c ⟨n + 1, h⟩ h0 h1]; dsimp only; unfold scAt0_4; rw [dif_pos h0, dif_neg h1] <;> try rfl) | (rw [outsAt0_B m c ⟨n + 1, h⟩ h0 h1]; dsimp only; unfold scAt0_4; rw [dif_neg h0, dif_neg h1] <;> try rfl) | (rw [outsAt0_C m c ⟨n + 1, h⟩ h0 h1]; dsimp only; unfold scAt0_4; rw [dif_neg h0, dif_pos h1] <;> try rfl))
    (by decide) t.val t.isLt _

/-- One run spans the grid (the only reset is at point 0): after point `n` the scratch is the fold from 0 to `n`. -/
theorem soutsAt0_4_sweep (c : Dev nD) (n : ℕ) (hn : n < cfg0.N) :
    (outsAt0 m c n hn).2.2.2.2.2.2.2 = Pipeline.accAt (fun n h => scAt0_4 m c n h (VS0_4.read (Elt F) VS0_4.junk)) (scAt0_4 m c) 0 n (by omega) := by
  have e := soutsAt0_4_eq m c ⟨n, hn⟩
  have hN := lt_of_lt_of_eq hn (show cfg0.N = 125 from N_0)
  have hd : n / 125 = 0 := Nat.div_eq_of_lt hN
  have hm : n % 125 = n := Nat.mod_eq_of_lt hN
  simpa only [hd, hm, Nat.mul_zero] using e

end Cert.KernelIdeal.Value

end
-- ==== Proof.Result.lean ====
module
public import proofs.«01_k».proof.Proof.Points
public import proofs.«01_k».proof.Proof.IdealValue
@[expose] public section
set_option maxRecDepth 16384

/-! The kernel's four result arrays after the run, in terms of its three arguments. -/

noncomputable section
namespace Cert.Proof
open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- The array of values. -/
theorem final2 : (dats m 0 c).arrAt 2 cfg0.N = (fun y : S2560x32000.Idx => logitV m c (y 0) (y 1).val) := by
  refine (dats m 0 c).arrAt_eq_of_covers 2 _ (by decide +kernel) fun t hf y => ?_
  blk_simp
  rw [after0_2]
  obtain ⟨r, j, rfl⟩ : ∃ (r : Fin 2560) (j : Fin 256), y = ix2 r j := ⟨y 0, y 1, eq_ix2 y⟩
  refine ((after_all m c t.val t.isLt).block r j).trans ?_
  have h0 : (win0_2.blk t).view.emb (ix2 r j) 0 = r := by
    apply Fin.ext
    blk_simp [index2 t]
  rw [h0]
  refine congrArg (logitV m c r) ?_
  have := congrFun (index2 t) 1
  refine Eq.trans ?_ (congrArg (fun k => k * 256 + j.val) this.symm)
  show 256 * t.val + j.val = t.val * 256 + j.val
  omega

/-- The activations the kernel call reads are the first argument without its middle axis. -/
theorem V_x (r : Fin 2560) (k : Fin 8192) :
    V m c main_v0 (ix2 r k) = m (c, main_arg0) (ix3 r 0 k) := by
  entry_read
  pointwise

theorem V_w : V m c main_arg1 = m (c, main_arg1) := V_main_arg1 m c
theorem V_s : V m c main_arg2 = m (c, main_arg2) := V_main_arg2 m c

/-- The last grid point. -/
def tEnd : Fin cfg0.N := ⟨124, by rw [show cfg0.N = 125 from N_0]; decide⟩

theorem final3 : (dats m 0 c).arrAt 3 cfg0.N = (outsAt0 m c tEnd.val tEnd.isLt).2.1 := by
  refine (dats m 0 c).arrAt_eq_of_after_last 3 tEnd (by decide +kernel) _ fun j => ?_
  rw [after0_3]
  rfl

theorem final4 : (dats m 0 c).arrAt 4 cfg0.N = (outsAt0 m c tEnd.val tEnd.isLt).2.2.1 := by
  refine (dats m 0 c).arrAt_eq_of_after_last 4 tEnd (by decide +kernel) _ fun j => ?_
  rw [after0_4]
  rfl

theorem final5 : (dats m 0 c).arrAt 5 cfg0.N = (outsAt0 m c tEnd.val tEnd.isLt).2.2.2.1 := by
  refine (dats m 0 c).arrAt_eq_of_after_last 5 tEnd (by decide +kernel) _ fun j => ?_
  rw [after0_5]
  rfl

end Cert.Proof
end
-- ==== Proof.RefRun.lean ====
module
public import proofs.«01_k».proof.Defs
public import proofs.«01_k».proof.Proof.Gen.ReferenceIdeal
public import Idealize.ShloMosaic.Lib.StableHlo.Run
public import Idealize.ShloMosaic.Lib.Pointwise
@[expose] public section
set_option maxRecDepth 16384

/-! The run of the reference: a straight line of host operations, and what its four result buffers hold. -/

noncomputable section
namespace Cert.Proof.Ref
open Cert.ReferenceIdeal Cert.ReferenceIdeal.Gen Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ unary main_arg1 main_v0 ((extui 32 · natLt_8_32)),
    nullary main_c (constantI S_ 32 15#32),
    unary main_c main_v1 (broadcastInDim S32000x4096 ![] bcast_S_S32000x4096),
    binary main_v0 main_v1 main_v2 (andi),
    reshape main_v2 main_v3 (rfl : (.i32 : EltTy) = .i32) shapeCasts_S32000x4096_S32000x256x16,
    unary main_arg1 main_v4 ((extui 32 · natLt_8_32)),
    nullary main_c_0 (constantI S_ 32 4#32),
    unary main_c_0 main_v5 (broadcastInDim S32000x4096 ![] bcast_S_S32000x4096),
    binary main_v4 main_v5 main_v6 (Host.shrsi),
    reshape main_v6 main_v7 (rfl : (.i32 : EltTy) = .i32) shapeCasts_S32000x4096_S32000x256x16,
    unary main_arg2 main_v8 (broadcastInDim S32000x256x1 ![0, 1] bcast_S32000x256_S32000x256x1_0_1),
    unary main_v3 main_v9 (sitofp .bf16),
    nullary main_cst (constant S_ .bf16 0x4100#16),
    unary main_cst main_v10 (broadcastInDim S32000x256x16 ![] bcast_S_S32000x256x16),
    binary main_v9 main_v10 main_v11 (subf),
    unary main_v8 main_v12 (broadcastInDim S32000x256x16 ![0, 1, 2] bcast_S32000x256x1_S32000x256x16_0_1_2),
    binary main_v11 main_v12 main_v13 (mulf),
    unary main_v7 main_v14 (sitofp .bf16),
    nullary main_cst_1 (constant S_ .bf16 0x4100#16),
    unary main_cst_1 main_v15 (broadcastInDim S32000x256x16 ![] bcast_S_S32000x256x16),
    binary main_v14 main_v15 main_v16 (subf),
    unary main_v8 main_v17 (broadcastInDim S32000x256x16 ![0, 1, 2] bcast_S32000x256x1_S32000x256x16_0_1_2),
    binary main_v16 main_v17 main_v18 (mulf),
    reshape main_arg0 main_v19 (rfl : (.bf16 : EltTy) = .bf16) shapeCasts_S2560x1x8192_S2560x1x256x32,
    unary main_v19 main_v20 ((extractStridedSlice S2560x1x256x16 ![0, 0, 0, 0] · slices_S2560x1x256x32_S2560x1x256x16_0_0_0_0)),
    binary main_v20 main_v13 main_v21 ((fun l r => Host.dotGeneral dot_S2560x1x256x16_S32000x256x16_S2560x1x32000_23_12_01_0_n_n none l r)),
    unary main_v19 main_v22 ((extractStridedSlice S2560x1x256x16 ![0, 0, 0, 16] · slices_S2560x1x256x32_S2560x1x256x16_0_0_0_16)),
    binary main_v22 main_v18 main_v23 ((fun l r => Host.dotGeneral dot_S2560x1x256x16_S32000x256x16_S2560x1x32000_23_12_01_0_n_n none l r)),
    binary main_v21 main_v23 main_v24 (addf),
    nullary main_call0_v0 (iotaInDim S2560x1x32000 32 2),
    nullary main_call0_cst (constant S_ .f32 0xFF800000#32),
    nullary main_call0_c (constantI S_ 32 0#32),
    quaternary main_v24 main_call0_v0 main_call0_cst main_call0_c main_call0_v1_0 (fun x y u v j => (Host.argReduce reducer_argmax_f32_i32 x y u v reducesTo_S2560x1x32000_S2560x1_d2 h_S_ j).1),
    quaternary main_v24 main_call0_v0 main_call0_cst main_call0_c main_v25 (fun x y u v j => (Host.argReduce reducer_argmax_f32_i32 x y u v reducesTo_S2560x1x32000_S2560x1_d2 h_S_ j).2),
    unary main_v24 main_values ((fun x => (Host.topK S2560x1x2 2 (FloatOps.cmpfTotal .gt) x sliceFits_S2560x1x32000_S2560x1x2).1)),
    unary main_v24 main_indices ((fun x => (Host.topK S2560x1x2 2 (FloatOps.cmpfTotal .gt) x sliceFits_S2560x1x32000_S2560x1x2).2)),
    unary main_values main_v26 ((extractStridedSlice S2560x1x1 ![0, 0, 0] · slices_S2560x1x2_S2560x1x1_0_0_0)),
    reshape main_v26 main_v27 (rfl : (.f32 : EltTy) = .f32) shapeCasts_S2560x1x1_S2560x1,
    unary main_values main_v28 ((extractStridedSlice S2560x1x1 ![0, 0, 0] · slices_S2560x1x2_S2560x1x1_0_0_0)),
    reshape main_v28 main_v29 (rfl : (.f32 : EltTy) = .f32) shapeCasts_S2560x1x1_S2560x1,
    unary main_values main_v30 ((extractStridedSlice S2560x1x1 ![0, 0, 1] · slices_S2560x1x2_S2560x1x1_0_0_1)),
    reshape main_v30 main_v31 (rfl : (.f32 : EltTy) = .f32) shapeCasts_S2560x1x1_S2560x1,
    binary main_v29 main_v31 main_v32 (subf),
    reshape main_v24 main_v33 (rfl : (.f32 : EltTy) = .f32) shapeCasts_S2560x1x32000_S2560x32000 ]

/-- The reference is that straight line. -/
theorem main_eq (c : Dev nD) : main (F := F) c = seq ops := rfl

/-- Every operation touches the core's own buffers only. -/
theorem ops_sub : (ops : List (HloOp τ sig (Elt F))).Forall fun op => op.bufs ⊆ tcRefs τ sig :=
  ⟨unary_bufs_sub .., nullary_bufs_sub .., unary_bufs_sub .., binary_bufs_sub .., reshape_bufs_sub .., unary_bufs_sub .., nullary_bufs_sub .., unary_bufs_sub .., binary_bufs_sub .., reshape_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., reshape_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., unary_bufs_sub .., unary_bufs_sub .., reshape_bufs_sub .., unary_bufs_sub .., reshape_bufs_sub .., unary_bufs_sub .., reshape_bufs_sub .., binary_bufs_sub .., reshape_bufs_sub ..⟩

/-- Nothing is scoped among the buffers. -/
theorem scopedRefs_eq : (Finset.univ.filter fun b : Ref sig .tc => b.isScoped) = ∅ := by decide
/-- Nothing is scoped among the semaphores. -/
theorem scopedSems_eq : (Finset.univ.filter fun sm : SemLoc sig => sm.isScoped .tc) = ∅ := by decide

/-- Half of the dequantized weights from its nibbles: eight less, times the group's scale. -/
def half (nib : (⟨S32000x4096, .i32⟩ : BufTy).Contents (Elt F)) (s : (⟨S32000x256, .bf16⟩ : BufTy).Contents (Elt F)) : (⟨S32000x256x16, .bf16⟩ : BufTy).Contents (Elt F) :=
  mulf (subf (sitofp .bf16 (shapeCast S32000x256x16 nib shapeCasts_S32000x4096_S32000x256x16))
      (broadcastInDim S32000x256x16 ![] bcast_S_S32000x256x16 (constant S_ .bf16 0x4100#16)))
    (broadcastInDim S32000x256x16 ![0, 1, 2] bcast_S32000x256x1_S32000x256x16_0_1_2 (broadcastInDim S32000x256x1 ![0, 1] bcast_S32000x256_S32000x256x1_0_1 s))

/-- The low nibbles of the packed bytes. -/
def low (P : (⟨S32000x4096, .i8⟩ : BufTy).Contents (Elt F)) : (⟨S32000x4096, .i32⟩ : BufTy).Contents (Elt F) :=
  andi (extui 32 P natLt_8_32) (broadcastInDim S32000x4096 ![] bcast_S_S32000x4096 (constantI S_ 32 15#32))

/-- The high nibbles of the packed bytes. -/
def high (P : (⟨S32000x4096, .i8⟩ : BufTy).Contents (Elt F)) : (⟨S32000x4096, .i32⟩ : BufTy).Contents (Elt F) :=
  Host.shrsi (extui 32 P natLt_8_32) (broadcastInDim S32000x4096 ![] bcast_S_S32000x4096 (constantI S_ 32 4#32))

/-- The reference's logits. -/
def lg (x : (⟨S2560x1x8192, .bf16⟩ : BufTy).Contents (Elt F)) (P : (⟨S32000x4096, .i8⟩ : BufTy).Contents (Elt F))
    (s : (⟨S32000x256, .bf16⟩ : BufTy).Contents (Elt F)) : (⟨S2560x1x32000, .f32⟩ : BufTy).Contents (Elt F) :=
  addf
    (Host.dotGeneral dot_S2560x1x256x16_S32000x256x16_S2560x1x32000_23_12_01_0_n_n none
      (extractStridedSlice S2560x1x256x16 ![0, 0, 0, 0] (shapeCast S2560x1x256x32 x shapeCasts_S2560x1x8192_S2560x1x256x32) slices_S2560x1x256x32_S2560x1x256x16_0_0_0_0)
      (half (low P) s))
    (Host.dotGeneral dot_S2560x1x256x16_S32000x256x16_S2560x1x32000_23_12_01_0_n_n none
      (extractStridedSlice S2560x1x256x16 ![0, 0, 0, 16] (shapeCast S2560x1x256x32 x shapeCasts_S2560x1x8192_S2560x1x256x32) slices_S2560x1x256x32_S2560x1x256x16_0_0_0_16)
      (half (high P) s))

/-- The largest value of each row with its position. -/
def tokPair (L : (⟨S2560x1x32000, .f32⟩ : BufTy).Contents (Elt F)) : S2560x1.Idx → F .f32 × BitVec 32 :=
  Host.argReduce reducer_argmax_f32_i32 L (iotaInDim S2560x1x32000 32 2) (constant S_ .f32 0xFF800000#32) (constantI S_ 32 0#32)
    reducesTo_S2560x1x32000_S2560x1_d2 h_S_

/-- The second components. -/
def seconds {α : Type} (g : S2560x1.Idx → α × BitVec 32) : S2560x1.Idx → BitVec 32 := fun j => (g j).2

/-- The second components, read. -/
theorem seconds_apply {α : Type} (g : S2560x1.Idx → α × BitVec 32) (j : S2560x1.Idx) (q : α × BitVec 32) (h : g j = q) : seconds g j = q.2 :=
  congrArg Prod.snd h

/-- The position of the largest value of each row. -/
def tok (L : (⟨S2560x1x32000, .f32⟩ : BufTy).Contents (Elt F)) : (⟨S2560x1, .i32⟩ : BufTy).Contents (Elt F) :=
  seconds (tokPair L)

/-- The two largest values of each row. -/
def two (L : (⟨S2560x1x32000, .f32⟩ : BufTy).Contents (Elt F)) : (⟨S2560x1x2, .f32⟩ : BufTy).Contents (Elt F) :=
  (Host.topK S2560x1x2 2 (FloatOps.cmpfTotal .gt) L sliceFits_S2560x1x32000_S2560x1x2).1

/-- The largest value of each row. -/
def top (L : (⟨S2560x1x32000, .f32⟩ : BufTy).Contents (Elt F)) : (⟨S2560x1, .f32⟩ : BufTy).Contents (Elt F) :=
  shapeCast S2560x1 (extractStridedSlice S2560x1x1 ![0, 0, 0] (two L) slices_S2560x1x2_S2560x1x1_0_0_0) shapeCasts_S2560x1x1_S2560x1

/-- The second largest value of each row. -/
def second (L : (⟨S2560x1x32000, .f32⟩ : BufTy).Contents (Elt F)) : (⟨S2560x1, .f32⟩ : BufTy).Contents (Elt F) :=
  shapeCast S2560x1 (extractStridedSlice S2560x1x1 ![0, 0, 1] (two L) slices_S2560x1x2_S2560x1x1_0_0_1) shapeCasts_S2560x1x1_S2560x1

variable (V : Valuation τ sig (Elt F))

/-- The logits' buffer. -/
theorem lg_eq : after ops V (main_v33 : DevRef τ sig)
    = shapeCast S2560x32000 (lg (V (main_arg0 : DevRef τ sig)) (V (main_arg1 : DevRef τ sig)) (V (main_arg2 : DevRef τ sig))) shapeCasts_S2560x1x32000_S2560x32000 := by
  after_results
  rfl

/-- The positions' buffer. -/
theorem tok_eq : after ops V (main_v25 : DevRef τ sig)
    = tok (lg (V (main_arg0 : DevRef τ sig)) (V (main_arg1 : DevRef τ sig)) (V (main_arg2 : DevRef τ sig))) := by
  after_results
  rfl

/-- The largest values' buffer. -/
theorem top_eq : after ops V (main_v27 : DevRef τ sig)
    = top (lg (V (main_arg0 : DevRef τ sig)) (V (main_arg1 : DevRef τ sig)) (V (main_arg2 : DevRef τ sig))) := by
  after_results
  rfl

/-- The margins' buffer. -/
theorem margin_eq : after ops V (main_v32 : DevRef τ sig)
    = subf (top (lg (V (main_arg0 : DevRef τ sig)) (V (main_arg1 : DevRef τ sig)) (V (main_arg2 : DevRef τ sig))))
        (second (lg (V (main_arg0 : DevRef τ sig)) (V (main_arg1 : DevRef τ sig)) (V (main_arg2 : DevRef τ sig)))) := by
  after_results
  rfl

/-- The arguments keep their contents. -/
theorem args_eq : after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig) :=
  ⟨by after_results, by after_results, by after_results⟩

/-- The reference's run: each result buffer holds its value of the arguments, and the arguments are kept. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      let L := lg (F := F) (m ((c.tc : Thread nD τ).loc main_arg0)) (m ((c.tc : Thread nD τ).loc main_arg1)) (m ((c.tc : Thread nD τ).loc main_arg2))
      r.2.mem ((c.tc : Thread nD τ).loc main_v25) = tok L
      ∧ r.2.mem ((c.tc : Thread nD τ).loc main_v32) = subf (top L) (second L)
      ∧ r.2.mem ((c.tc : Thread nD τ).loc main_v27) = top L
      ∧ r.2.mem ((c.tc : Thread nD τ).loc main_v33) = shapeCast S2560x32000 L shapeCasts_S2560x1x32000_S2560x32000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (tok_eq _), (h c main_v32).trans (margin_eq _),
      (h c main_v27).trans (top_eq _), (h c main_v33).trans (lg_eq _),
      (h c main_arg0).trans (args_eq _).1, (h c main_arg1).trans (args_eq _).2.1, (h c main_arg2).trans (args_eq _).2.2⟩)
    (run_seq scopedRefs_eq scopedSems_eq defs main (fun _ => ops) main_eq (fun _ => ops_sub) m ρ)

end Cert.Proof.Ref
end
-- ==== Proof.RefValue.lean ====
module
public import proofs.«01_k».proof.Proof.RefRun
public import proofs.«01_k».proof.Proof.Points
@[expose] public section
set_option maxRecDepth 16384

/-! The reference's logits are the kernel's sums: both run over all 8192 positions, in another order. -/

noncomputable section
namespace Cert.Proof
open Idealize.ShloMosaic Idealize.ShloMosaic.TcCoe Idealize.ShloMosaic.Tactic Idealize.SL.Sem

/-- Where the kernel keeps the position the reference writes as half, group and place in the half. -/
def place : Fin 8192 ≃ Fin 2 × Fin 256 × Fin 16 where
  toFun k := (⟨k.val % 256 / 128, by omega⟩, ⟨8 * (k.val / 256) + k.val % 128 / 16, by omega⟩, ⟨k.val % 16, by omega⟩)
  invFun p := ⟨256 * (p.2.1.val / 8) + 128 * p.1.val + 16 * (p.2.1.val % 8) + p.2.2.val, by omega⟩
  left_inv k := by apply Fin.ext; simp only; omega
  right_inv p := by
    obtain ⟨h, g, j⟩ := p
    refine Prod.ext (Fin.ext ?_) (Prod.ext (Fin.ext ?_) (Fin.ext ?_)) <;> simp only <;> omega

/-- A sum over all positions is the two halves' sums over groups and places. -/
theorem sum_place (f : Fin 2 → Fin 256 → Fin 16 → EReal) :
    ∑ k : Fin 8192, f (place k).1 (place k).2.1 (place k).2.2 = ∑ g, ∑ j, f 0 g j + ∑ g, ∑ j, f 1 g j := by
  rw [Fintype.sum_equiv place (fun k => f (place k).1 (place k).2.1 (place k).2.2) (fun p => f p.1 p.2.1 p.2.2) (fun _ => rfl),
    Fintype.sum_prod_type, Fin.sum_univ_two, Fintype.sum_prod_type, Fintype.sum_prod_type]

/-- A byte's low four bits, widened before or after they are taken. -/
theorem low_nib : ∀ b : BitVec 8, (IntOp.andi (BitVec.setWidth 32 b) 15#32).toInt = (b &&& 15#8).toInt := by decide +kernel

/-- A byte's high four bits, widened before or after they are taken. -/
theorem high_nib : ∀ b : BitVec 8, (IntOp.shrsi ArithUnit.host (BitVec.setWidth 32 b) 4#32).toInt = (b >>> 4).toInt := by decide +kernel

open Cert.ReferenceIdeal Cert.ReferenceIdeal.Gen in
/-- The reference's logit. -/
theorem lg_apply (x : S2560x1x8192.Idx → EReal) (X : Cert.KernelIdeal.S2560x8192.Idx → EReal) (hX : ∀ r k, X (ix2 r k) = x (ix3 r 0 k))
    (P : S32000x4096.Idx → BitVec 8) (s : S32000x256.Idx → EReal) (r : Fin 2560) (v : Fin 32000) :
    Ref.lg (F := Ideal) x P s (ix3 r 0 v) = logit X P s r v.val := by
  have hl : logit X P s r v.val = ∑ k : Fin 8192, deint X (ix2 r k) * wfull P s v k := by
    unfold logit
    rw [dif_pos v.isLt]
  rw [hl]
  refine Eq.trans ?_ ((sum_place fun h g j => x (ix3 r 0 ⟨32 * g.val + 16 * h.val + j.val, by omega⟩)
    * ((((((if h.val = 0 then P (ix2 v ⟨16 * g.val + j.val, by omega⟩) &&& 15#8 else P (ix2 v ⟨16 * g.val + j.val, by omega⟩) >>> 4).toInt : ℝ) : EReal) - eight) * s (ix2 v g)))).symm.trans ?_)
  · unfold Ref.lg Ref.half Ref.low Ref.high
    pointwise [dot_S2560x1x256x16_S32000x256x16_S2560x1x32000_23_12_01_0_n_n]
    refine congrArg₂ (· + ·) (Finset.sum_congr rfl fun g _ => Finset.sum_congr rfl fun j _ => ?_)
      (Finset.sum_congr rfl fun g _ => Finset.sum_congr rfl fun j _ => ?_)
    · have e0 : (⟨g.val * 32 + j.val, by omega⟩ : Fin 8192) = ⟨32 * g.val + j.val, by omega⟩ := Fin.ext (by simp only; omega)
      have e1 : (⟨g.val * 16 + j.val, by omega⟩ : Fin 4096) = ⟨16 * g.val + j.val, by omega⟩ := Fin.ext (by simp only; omega)
      rw [e0, e1, ← low_nib]
      rfl
    · have e0 : (⟨g.val * 32 + (16 + j.val), by omega⟩ : Fin 8192) = ⟨32 * g.val + 16 + j.val, by omega⟩ := Fin.ext (by simp only; omega)
      have e1 : (⟨g.val * 16 + j.val, by omega⟩ : Fin 4096) = ⟨16 * g.val + j.val, by omega⟩ := Fin.ext (by simp only; omega)
      rw [e0, e1, ← high_nib]
      rfl
  · refine Finset.sum_congr rfl fun k _ => ?_
    have hk := k.isLt
    have ep : (⟨32 * (place k).2.1.val + 16 * (place k).1.val + (place k).2.2.val, by omega⟩ : Fin 8192) = ⟨perm k.val, perm_lt k.isLt⟩ :=
      Fin.ext (by simp only [place, Equiv.coe_fn_mk, perm]; omega)
    have eb : (⟨16 * (place k).2.1.val + (place k).2.2.val, by omega⟩ : Fin 4096) = ⟨128 * (k.val / 256) + k.val % 128, by omega⟩ :=
      Fin.ext (by simp only [place, Equiv.coe_fn_mk]; omega)
    have eh : ((place k).1.val = 0) = (k.val % 256 < 128) :=
      propext (by simp only [place, Equiv.coe_fn_mk]; omega)
    simp only [ep, eb, eh, ← hX]
    rfl

end Cert.Proof
end
-- ==== Proof.RefTop.lean ====
module
public import proofs.«01_k».proof.Proof.RefRun
public import proofs.«01_k».proof.Proof.Sweep
public import Idealize.ShloMosaic.Lib.IdealHost
@[expose] public section
set_option maxRecDepth 16384

/-! The reference's position of the largest value, and its two largest values, as the specification's. -/

noncomputable section
namespace Cert.Proof.Ref
open Cert.ReferenceIdeal Cert.ReferenceIdeal.Gen Idealize.ShloMosaic Idealize.ShloMosaic.TcCoe Idealize.ShloMosaic.Tactic Idealize.SL.Sem

/-- `r` is at least as good as `p`: a larger value, or the same value no later. -/
def Best (r p : EReal × BitVec 32) : Prop := p.1 < r.1 ∨ (p.1 = r.1 ∧ r.2.toInt ≤ p.2.toInt)

/-- Being at least as good is transitive. -/
theorem Best.trans (a b c : EReal × BitVec 32) (h : Best a b) (h' : Best b c) : Best a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- The reference's choice between two pairs is one of them, and as good as both. -/
theorem pick (a b : EReal × BitVec 32) :
    (reducer_argmax_f32_i32 (F := Ideal) a b = a ∨ reducer_argmax_f32_i32 (F := Ideal) a b = b)
      ∧ Best (reducer_argmax_f32_i32 (F := Ideal) a b) a ∧ Best (reducer_argmax_f32_i32 (F := Ideal) a b) b := by
  obtain ⟨x, i⟩ := a
  obtain ⟨y, j⟩ := b
  have key : reducer_argmax_f32_i32 (F := Ideal) (x, i) (y, j)
      = (if y < x then x else y, if y < x ∨ (x = y ∧ i.toInt < j.toInt) then i else j) := by
    unfold reducer_argmax_f32_i32
    by_cases h1 : y < x <;> by_cases h2 : x = y <;> by_cases h3 : i.toInt < j.toInt <;>
      simp [Ideal.cmpf_def, Ideal.cmp, IntOp.ori, IntOp.andi, IntOp.cmpi, Scalar.select, BitVec.slt, h1, h2, h3]
  rw [key]
  rcases lt_trichotomy y x with h | h | h
  · simp [h, Best]
  · subst h
    by_cases h3 : i.toInt < j.toInt
    · simp [h3, Best, h3.le]
    · simp [h3, Best, not_lt.1 h3]
  · simp [h, h.ne', h.ne, not_lt.2 h.le, Best]

/-- Dropping the last axis. -/
theorem drop_ix3 (a : Fin 2560) (v : Fin 32000) : reducesTo_S2560x1x32000_S2560x1_d2.drop (ix3 a 0 v) = ix2 a 0 := by
  refine Shape.idx_ext₂ ?_ ?_ <;> rfl

/-- The fiber of the last axis at a row. -/
theorem mem_fiber (L : S2560x1x32000.Idx → EReal) (a : Fin 2560) (p : EReal × BitVec 32) :
    p ∈ Host.argReduceFiber L (iotaInDim S2560x1x32000 32 2) reducesTo_S2560x1x32000_S2560x1_d2 (ix2 a 0)
      ↔ ∃ v : Fin 32000, p = (L (ix3 a 0 v), BitVec.ofNat 32 v.val) := by
  unfold Host.argReduceFiber
  simp only [List.mem_map, List.mem_filter, List.mem_finRange, true_and, decide_eq_true_eq]
  constructor
  · rintro ⟨n, hn, rfl⟩
    obtain ⟨a', b', v, he⟩ : ∃ (a' : Fin 2560) (b' : Fin 1) (v : Fin 32000), S2560x1x32000.rowMajor.symm n = ix3 a' b' v := ⟨_, _, _, eq_ix3 _⟩
    obtain rfl : b' = 0 := Subsingleton.elim _ _
    rw [he, drop_ix3] at hn
    obtain rfl : a' = a := congrFun hn 0
    exact ⟨v, by rw [he]; rfl⟩
  · rintro ⟨v, rfl⟩
    refine ⟨S2560x1x32000.rowMajor (ix3 a 0 v), ?_, ?_⟩
    · rw [Equiv.symm_apply_apply, drop_ix3]
    · rw [Equiv.symm_apply_apply]; rfl

/-- The reference's fold over the values with their positions ends at the specification's position. -/
theorem fold_pos (l : List (EReal × BitVec 32)) (f : ℕ → EReal) (hm : ∀ p, p ∈ l ↔ ∃ v : Fin 32000, p = (f v.val, BitVec.ofNat 32 v.val))
    (t : ℕ) (u w : EReal) (h : IsTop2 32000 f t u w) :
    (l.foldl (reducer_argmax_f32_i32 (F := Ideal)) ((⊥ : EReal), 0#32)).2 = BitVec.ofNat 32 t := by
  obtain ⟨h1, h2, h3⟩ := foldl_best (reducer_argmax_f32_i32 (F := Ideal)) Best Best.trans (fun p => Or.inr ⟨rfl, le_rfl⟩) pick l ((⊥ : EReal), 0#32)
  obtain ⟨q, hq⟩ : ∃ q, l.foldl (reducer_argmax_f32_i32 (F := Ideal)) ((⊥ : EReal), 0#32) = q := ⟨_, rfl⟩
  rw [hq] at h1 h2 h3 ⊢
  have hall : ∀ v : ℕ, v < 32000 → Best q (f v, BitVec.ofNat 32 v) := fun v hv =>
    h3 _ ((hm _).2 ⟨⟨v, hv⟩, rfl⟩)
  obtain ⟨t', ht', e1, e2⟩ : ∃ t' < 32000, q.1 = f t' ∧ q.2 = BitVec.ofNat 32 t' := by
    rcases h1 with h1 | h1
    · refine ⟨0, by decide, ?_, by rw [h1]⟩
      have := hall 0 (by decide)
      rw [h1] at this ⊢
      rcases this with h' | h'
      · exact absurd h' not_lt_bot
      · exact h'.1.symm
    · obtain ⟨v, hv⟩ := (hm _).1 h1
      exact ⟨v.val, v.isLt, by rw [hv], by rw [hv]⟩
  rw [e2]
  refine congrArg (BitVec.ofNat 32) (h.tok_unique (t' := t') (a' := f t') ht' rfl (fun v hv => ?_) (fun v hv he => ?_)).symm
  · rcases hall v hv with h' | h'
    · exact e1 ▸ h'.le
    · exact (h'.1.trans e1).le
  · rcases hall v hv with h' | h'
    · exact absurd (he.trans e1.symm) (ne_of_lt h')
    · have := h'.2
      simp only [e2] at this
      rw [toInt_ofNat_small _ (by omega), toInt_ofNat_small _ (by omega)] at this
      omega

/-- The constant the reference starts from is the least value. -/
theorem start_eq : ((constant (F := Ideal) S_ .f32 0xFF800000#32 (Shape.Idx.first h_S_), constantI S_ 32 0#32 (Shape.Idx.first h_S_)) : EReal × BitVec 32)
    = ((⊥ : EReal), 0#32) := by
  refine Prod.ext ?_ rfl
  exact ofBits_ninf

/-- The reference's position is the specification's. -/
theorem tok_apply (L : S2560x1x32000.Idx → EReal) (f : ℕ → EReal) (a : Fin 2560) (hL : ∀ v : Fin 32000, L (ix3 a 0 v) = f v.val)
    (t : ℕ) (u w : EReal) (h : IsTop2 32000 f t u w) : tok (F := Ideal) L (ix2 a 0) = BitVec.ofNat 32 t := by
  have h1 : tokPair (F := Ideal) L (ix2 a 0) = (Host.argReduceFiber L (iotaInDim S2560x1x32000 32 2) reducesTo_S2560x1x32000_S2560x1_d2 (ix2 a 0)).foldl
      (reducer_argmax_f32_i32 (F := Ideal)) ((⊥ : EReal), 0#32) := by
    have e1 := congrFun (Ideal.argReduce_eq_reduce2 (reducer_argmax_f32_i32 (F := Ideal)) L (iotaInDim S2560x1x32000 32 2) (constant (F := Ideal) S_ .f32 0xFF800000#32)
      (constantI S_ 32 0#32) reducesTo_S2560x1x32000_S2560x1_d2 h_S_) (ix2 a 0)
    have e2 := Host.reduce2_eq_foldl_fiber (reducer_argmax_f32_i32 (F := Ideal)) L (iotaInDim S2560x1x32000 32 2) (constant (F := Ideal) S_ .f32 0xFF800000#32)
      (constantI S_ 32 0#32) reducesTo_S2560x1x32000_S2560x1_d2 h_S_ (ix2 a 0)
    rw [start_eq] at e2
    exact e1.trans e2
  refine (seconds_apply _ _ _ h1).trans ?_
  exact fold_pos _ f (fun p => (mem_fiber L a p).trans (exists_congr fun v => by rw [hL])) t u w h

attribute [local irreducible] sortedFrom

/-- A sort's first result, read. -/
theorem sort_fst {α β : Type} (cmp : α × β → α × β → BitVec 1) (x : S2560x1x32000.Idx → α) (y : S2560x1x32000.Idx → β) (j : S2560x1x32000.Idx) :
    (Host.sort2 S2560x1x32000 2 cmp x y).1 j
      = x (j.along 2 (sortedFrom (fun k k' => cmp (x (j.along 2 k), y (j.along 2 k)) (x (j.along 2 k'), y (j.along 2 k')) == 1#1) (j 2))) := by
  unfold Host.sort2
  rw [dif_pos (by decide)]
  rfl

/-- The reference's two values as a sort's first two. -/
theorem two_sort (L : S2560x1x32000.Idx → EReal) (a : Fin 2560) (k : Fin 2) : ∃ y : S2560x1x32000.Idx → BitVec 32,
    two (F := Ideal) L (ix3 a 0 k)
      = (Host.sort2 S2560x1x32000 2 (fun l r => FloatOps.cmpfTotal (F := Ideal) (φ := .f32) .gt l.1 r.1) L y).1 (ix3 a 0 ⟨k.val, by omega⟩) := by
  refine ⟨fun i => if hd : 2 < S2560x1x32000.rank then iotaInDim S2560x1x32000 32 ⟨2, hd⟩ i else 0#32, ?_⟩
  unfold two Host.topK
  dsimp only
  generalize Host.sort2 _ _ _ _ _ = q
  refine congrArg q.1 (funext fun b => ?_)
  fin_cases b <;> exact Fin.ext (by simp [ix3])

/-- The two largest values. -/
theorem two_apply (L : S2560x1x32000.Idx → EReal) (f : ℕ → EReal) (a : Fin 2560) (hL : ∀ v : Fin 32000, L (ix3 a 0 v) = f v.val)
    (t : ℕ) (u w : EReal) (h : IsTop2 32000 f t u w) :
    two (F := Ideal) L (ix3 a 0 0) = u ∧ two (F := Ideal) L (ix3 a 0 1) = w := by
  have ha : ∀ (v k : Fin 32000), L ((ix3 a (0 : Fin 1) v : S2560x1x32000.Idx).along 2 k) = f k.val := fun v k => by
    rw [← hL]
    refine congrArg L (funext fun b => ?_)
    fin_cases b <;> rfl
  have hk : ∀ k : Fin 2, two (F := Ideal) L (ix3 a 0 k) = f (sortedFrom (fun k k' : Fin 32000 => decide (f k'.val < f k.val)) ⟨k.val, by omega⟩).val := fun k => by
    obtain ⟨y, hy⟩ := two_sort L a k
    rw [hy, sort_fst]
    have hB : (fun c c' : Fin 32000 => FloatOps.cmpfTotal (F := Ideal) (φ := .f32) .gt (L ((ix3 a (0 : Fin 1) (⟨k.val, by omega⟩ : Fin 32000) : S2560x1x32000.Idx).along 2 c))
        (L ((ix3 a (0 : Fin 1) (⟨k.val, by omega⟩ : Fin 32000) : S2560x1x32000.Idx).along 2 c')) == 1#1)
        = fun c c' : Fin 32000 => decide (f c'.val < f c.val) := by
      funext c c'
      rw [ha, ha]
      show (BitVec.ofBool (decide (f c'.val < f c.val)) == 1#1) = _
      cases decide (f c'.val < f c.val) <;> rfl
    exact (ha _ _).trans (congrArg (fun B => f (sortedFrom B (⟨k.val, by omega⟩ : Fin 32000)).val) hB)
  obtain ⟨e0, e1⟩ := sorted_top2 (N := 32000) (by decide) f t u w h (fun k k' => decide (f k'.val < f k.val)) (fun k k' => decide_eq_true_iff)
  exact ⟨(hk 0).trans e0, (hk 1).trans e1⟩

theorem top_apply (L : S2560x1x32000.Idx → EReal) (a : Fin 2560) : top (F := Ideal) L (ix2 a 0) = two (F := Ideal) L (ix3 a 0 0) := by
  unfold top
  pointwise

theorem second_apply (L : S2560x1x32000.Idx → EReal) (a : Fin 2560) : second (F := Ideal) L (ix2 a 0) = two (F := Ideal) L (ix3 a 0 1) := by
  unfold second
  pointwise

end Cert.Proof.Ref
end
-- ==== Proof.Equal.lean ====
module
public import proofs.«01_k».proof.Proof.Result
public import proofs.«01_k».proof.Proof.RefValue
public import proofs.«01_k».proof.Proof.RefTop
@[expose] public section
set_option maxRecDepth 16384

/-! The kernel's four result arrays are the reference's: the logits, each row's position of the greatest, the difference of
its two greatest, and its greatest. -/

noncomputable section
namespace Cert.Proof
open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- The reference's logits of the kernel's three arguments. -/
def refLg : Cert.ReferenceIdeal.S2560x1x32000.Idx → EReal :=
  Ref.lg (F := Ideal) (m (c, main_arg0)) (m (c, main_arg1)) (m (c, main_arg2))

/-- The reference's differences of a row's two greatest. -/
def refMargin : (⟨Cert.ReferenceIdeal.S2560x1, .f32⟩ : BufTy).Contents (Elt Ideal) :=
  subf (F := Ideal) (φ := .f32) (Ref.top (F := Ideal) (refLg m c)) (Ref.second (F := Ideal) (refLg m c))

/-- The logits are the values the kernel's run computes. -/
theorem refLg_apply (r : Fin 2560) (v : Fin 32000) : refLg m c (ix3 r 0 v) = logitV m c r v.val := by
  unfold logitV
  rw [V_w m c, V_s m c]
  exact lg_apply (m (c, main_arg0)) (V m c main_v0) (fun r k => V_x m c r k) (m (c, main_arg1)) (m (c, main_arg2)) r v

/-- The array of logits. -/
theorem logits_eq : (dats m 0 c).arrAt 2 cfg0.N
    = shapeCast Cert.ReferenceIdeal.S2560x32000 (refLg m c) Cert.ReferenceIdeal.Gen.shapeCasts_S2560x1x32000_S2560x32000 := by
  rw [final2]
  funext y
  obtain ⟨r, v, rfl⟩ : ∃ (r : Fin 2560) (v : Fin 32000), y = ix2 r v := ⟨y 0, y 1, eq_ix2 y⟩
  refine (refLg_apply m c r v).symm.trans ?_
  generalize refLg m c = L
  pointwise

/-- A row's three numbers: what the last point writes, and what the reference takes from its logits. -/
theorem row_eq (r : Fin 2560) :
    (outsAt0 m c tEnd.val tEnd.isLt).2.1 (ix2 r 0) = Ref.tok (F := Ideal) (refLg m c) (ix2 r 0)
    ∧ (outsAt0 m c tEnd.val tEnd.isLt).2.2.1 (ix2 r 0) = refMargin m c (ix2 r 0)
    ∧ (outsAt0 m c tEnd.val tEnd.isLt).2.2.2.1 (ix2 r 0) = Ref.top (F := Ideal) (refLg m c) (ix2 r 0) := by
  obtain ⟨tok, sec, e1, e2, h⟩ := last_top2 m c tEnd (by decide) (by decide) r
  have hL : ∀ v : Fin 32000, refLg m c (ix3 r 0 v) = logitV m c r v.val := refLg_apply m c r
  obtain ⟨t0, t1⟩ := Ref.two_apply (refLg m c) _ r hL _ _ _ h
  have et := (Ref.top_apply (refLg m c) r).trans t0
  have es := (Ref.second_apply (refLg m c) r).trans t1
  refine ⟨e1.trans (Ref.tok_apply (refLg m c) _ r hL _ _ _ h).symm, e2.trans ?_, et.symm⟩
  exact (congrArg₂ (fun a b : EReal => a - b) et es).symm

/-- The array of positions. -/
theorem tok_eq : (dats m 0 c).arrAt 3 cfg0.N = Ref.tok (F := Ideal) (refLg m c) := by
  rw [final3]
  funext y
  obtain ⟨r, b, rfl⟩ : ∃ (r : Fin 2560) (b : Fin 1), y = ix2 r b := ⟨y 0, y 1, eq_ix2 y⟩
  obtain rfl : b = 0 := Subsingleton.elim _ _
  exact (row_eq m c r).1

/-- The array of differences. -/
theorem margin_eq : (dats m 0 c).arrAt 4 cfg0.N = refMargin m c := by
  rw [final4]
  funext y
  obtain ⟨r, b, rfl⟩ : ∃ (r : Fin 2560) (b : Fin 1), y = ix2 r b := ⟨y 0, y 1, eq_ix2 y⟩
  obtain rfl : b = 0 := Subsingleton.elim _ _
  exact (row_eq m c r).2.1

/-- The array of greatest values. -/
theorem top_eq : (dats m 0 c).arrAt 5 cfg0.N = Ref.top (F := Ideal) (refLg m c) := by
  rw [final5]
  funext y
  obtain ⟨r, b, rfl⟩ : ∃ (r : Fin 2560) (b : Fin 1), y = ix2 r b := ⟨y 0, y 1, eq_ix2 y⟩
  obtain rfl : b = 0 := Subsingleton.elim _ _
  exact (row_eq m c r).2.2

end Cert.Proof
end
-- ==== Proof.lean ====
module

public import proofs.«01_k».proof.Defs
public import proofs.«01_k».proof.Proof.KernelFrame
public import proofs.«01_k».proof.Proof.IdealFrame
public import proofs.«01_k».proof.Proof.Equal
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The kernel's run on words keeps its arguments and ends with every counter at zero. -/
theorem frame_k : Cert.quiescent_Kernel (hKernel := Cert.Kernel.Gen.facts) := fun m ρ _ => Cert.Kernel.Gen.frame m ρ

/-- So does its run on extended reals. -/
theorem frame_ki : Cert.quiescent_KernelIdeal (hKernelIdeal := Cert.KernelIdeal.Gen.facts) := fun m ρ _ => Cert.KernelIdeal.Gen.frame m ρ

/-- So does the reference's. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Ref.run_main (F := Ideal) m ρ)

/-- Kernel and reference compute the same four arrays over the extended reals. -/
theorem algebraic : Cert.algebraic_KernelIdeal_ReferenceIdeal (hKernelIdeal := Cert.KernelIdeal.Gen.facts) (hReferenceIdeal := Cert.ReferenceIdeal.Gen.facts) := by
  intro m ρ m' ρ' _ hargs
  refine ⟨fun c => (Cert.KernelIdeal.Gen.dats m 0 c).arrAt 3 Cert.KernelIdeal.cfg0.N, fun c => (Cert.KernelIdeal.Gen.dats m 0 c).arrAt 4 Cert.KernelIdeal.cfg0.N,
    fun c => (Cert.KernelIdeal.Gen.dats m 0 c).arrAt 5 Cert.KernelIdeal.cfg0.N, fun c => (Cert.KernelIdeal.Gen.dats m 0 c).arrAt 2 Cert.KernelIdeal.cfg0.N, ?_, ?_⟩
  · exact (θ_run Cert.KernelIdeal.defs _ _).mono (fun r h c => ⟨(h c).2.1, (h c).2.2.1, (h c).2.2.2.1, (h c).1, (h c).2.2.2.2⟩)
      (Cert.KernelIdeal.Value.run_blocks (F := Ideal) m ρ)
  · refine (θ_run Cert.ReferenceIdeal.defs _ _).mono (fun r h c => ?_) (Ref.run_main (F := Ideal) m' ρ')
    obtain ⟨h0, h1, h2⟩ := hargs c
    obtain ⟨e0, e1, e2, e3, ea⟩ := h c
    have hL : Ref.lg (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = refLg m c := by
      rw [h0, h1, h2]
      rfl
    dsimp only at e0 e1 e2 e3
    rw [hL] at e0 e1 e2 e3
    exact ⟨e0.trans (tok_eq m c).symm, e1.trans (margin_eq m c).symm, e2.trans (top_eq m c).symm, e3.trans (logits_eq m c).symm, ea⟩

theorem claim : Cert.Claim :=
  ⟨Cert.Kernel.Gen.facts, Cert.KernelIdeal.Gen.facts, Cert.ReferenceIdeal.Gen.facts, frame_k, frame_ki, frame_ri, trivial, algebraic⟩

end Cert.Proof

end
